-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_rows_see_earlier_keys [hPre_rows_see_earlier_keys : Cert.Pre_rows_see_earlier_keys.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_rows_see_earlier_keys.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).1 = (fun _ => 1#1)
    ∧ (Cert.Pre_rows_see_earlier_keys.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.1 = (fun _ => 1#1)
    ∧ (Cert.Pre_rows_see_earlier_keys.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2.1 = (fun _ => 1#1)
    ∧ (Cert.Pre_rows_see_earlier_keys.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2.2.1 = (fun _ => 1#1)
    ∧ (Cert.Pre_rows_see_earlier_keys.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_rows_see_earlier_keys [hPre_rows_see_earlier_keys : Cert.Pre_rows_see_earlier_keys.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_rows_see_earlier_keys.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).1 = (fun _ => 1#1)
    ∧ (Cert.Pre_rows_see_earlier_keys.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.1 = (fun _ => 1#1)
    ∧ (Cert.Pre_rows_see_earlier_keys.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.2.1 = (fun _ => 1#1)
    ∧ (Cert.Pre_rows_see_earlier_keys.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.2.2.1 = (fun _ => 1#1)
    ∧ (Cert.Pre_rows_see_earlier_keys.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_rows_see_earlier_keys [hKernel6Ideal : Cert.Kernel6Ideal.Facts] [hPre_rows_see_earlier_keys : Cert.Pre_rows_see_earlier_keys.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_rows_see_earlier_keys m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_rows_see_earlier_keys [hReference6Ideal : Cert.Reference6Ideal.Facts] [hPre_rows_see_earlier_keys : Cert.Pre_rows_see_earlier_keys.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_rows_see_earlier_keys m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v15)) (v1 : (c : Dev Cert.Kernel3Ideal.nD) → Buf (Elt Ideal) ((c.tc : Thread Cert.Kernel3Ideal.nD Cert.Kernel3Ideal.τ).loc Cert.Kernel3Ideal.main_v18)) (v2 : (c : Dev Cert.Kernel3Ideal.nD) → Buf (Elt Ideal) ((c.tc : Thread Cert.Kernel3Ideal.nD Cert.Kernel3Ideal.τ).loc Cert.Kernel3Ideal.main_v19)) (v3 : (c : Dev Cert.Kernel3Ideal.nD) → Buf (Elt Ideal) ((c.tc : Thread Cert.Kernel3Ideal.nD Cert.Kernel3Ideal.τ).loc Cert.Kernel3Ideal.main_v21)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_v18) = v1 c
          ∧ r.2.mem ((c.tc : Thread Cert.Kernel3Ideal.nD Cert.Kernel3Ideal.τ).loc Cert.Kernel3Ideal.main_v19) = v2 c
          ∧ r.2.mem ((c.tc : Thread Cert.Kernel3Ideal.nD Cert.Kernel3Ideal.τ).loc Cert.Kernel3Ideal.main_v21) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_v27) = v1 c
          ∧ r.2.mem ((c.tc : Thread Cert.Reference3Ideal.nD Cert.Reference3Ideal.τ).loc Cert.Reference3Ideal.main_v28) = v2 c
          ∧ r.2.mem ((c.tc : Thread Cert.Reference3Ideal.nD Cert.Reference3Ideal.τ).loc Cert.Reference3Ideal.main_v29) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v15)) (v1 : (c : Dev Cert.Kernel5Ideal.nD) → Buf (Elt Ideal) ((c.tc : Thread Cert.Kernel5Ideal.nD Cert.Kernel5Ideal.τ).loc Cert.Kernel5Ideal.main_v17)) (v2 : (c : Dev Cert.Kernel5Ideal.nD) → Buf (Elt Ideal) ((c.tc : Thread Cert.Kernel5Ideal.nD Cert.Kernel5Ideal.τ).loc Cert.Kernel5Ideal.main_v19)) (v3 : (c : Dev Cert.Kernel5Ideal.nD) → Buf (Elt Ideal) ((c.tc : Thread Cert.Kernel5Ideal.nD Cert.Kernel5Ideal.τ).loc Cert.Kernel5Ideal.main_v21)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15) = v0 c
          ∧ r.2.mem ((c.tc : Thread Cert.Kernel5Ideal.nD Cert.Kernel5Ideal.τ).loc Cert.Kernel5Ideal.main_v17) = v1 c
          ∧ r.2.mem ((c.tc : Thread Cert.Kernel5Ideal.nD Cert.Kernel5Ideal.τ).loc Cert.Kernel5Ideal.main_v19) = v2 c
          ∧ r.2.mem ((c.tc : Thread Cert.Kernel5Ideal.nD Cert.Kernel5Ideal.τ).loc Cert.Kernel5Ideal.main_v21) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_v27) = v1 c
          ∧ r.2.mem ((c.tc : Thread Cert.Reference5Ideal.nD Cert.Reference5Ideal.τ).loc Cert.Reference5Ideal.main_v28) = v2 c
          ∧ r.2.mem ((c.tc : Thread Cert.Reference5Ideal.nD Cert.Reference5Ideal.τ).loc Cert.Reference5Ideal.main_v29) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_rows_see_earlier_keys [hKernel6Ideal : Cert.Kernel6Ideal.Facts] [hReference6Ideal : Cert.Reference6Ideal.Facts] [hPre_rows_see_earlier_keys : Cert.Pre_rows_see_earlier_keys.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_rows_see_earlier_keys m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v30) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_rows_see_earlier_keys : Cert.Pre_rows_see_earlier_keys.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_rows_see_earlier_keys (hKernel6Ideal := hKernel6Ideal) (hPre_rows_see_earlier_keys := hPre_rows_see_earlier_keys)
    ∧ quiescent_Reference6Ideal (hReference6Ideal := hReference6Ideal)
    ∧ quiescent_Reference6Ideal_pre_rows_see_earlier_keys (hReference6Ideal := hReference6Ideal) (hPre_rows_see_earlier_keys := hPre_rows_see_earlier_keys)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_rows_see_earlier_keys (hKernel6Ideal := hKernel6Ideal) (hReference6Ideal := hReference6Ideal) (hPre_rows_see_earlier_keys := hPre_rows_see_earlier_keys)
-- ==== Pre_rows_see_earlier_keys.lean ====
abbrev S16384x1024 : Shape := ⟨2, ![16384, 1024]⟩
abbrev S32x16384x512 : Shape := ⟨3, ![32, 16384, 512]⟩
abbrev S_ : Shape := ⟨0, ![]⟩
abbrev S16384x32x512 : Shape := ⟨3, ![16384, 32, 512]⟩
abbrev S16384x16384 : Shape := ⟨2, ![16384, 16384]⟩
abbrev S16384 : Shape := ⟨1, ![16384]⟩

class Facts : Prop where
  bcast_S_S32x16384x512 : S_.BroadcastsInDim S32x16384x512 (![] : Fin 0 → Fin S32x16384x512.rank)
  bitsLt_bf16_f32 : FTy.bits .bf16 < FTy.bits .f32
  transposes_S32x16384x512_S16384x32x512_1_0_2 : S32x16384x512.Transposes [1, 0, 2] S16384x32x512
  shapeCasts_S16384x32x512_S16384x16384 : S16384x32x512.ShapeCasts S16384x16384
  reducesTo_S16384x16384_S16384_d1 : S16384x16384.ReducesTo [1] S16384
  h_S_ : 0 < S_.numel
  bcast_S_S16384x1024 : S_.BroadcastsInDim S16384x1024 (![] : Fin 0 → Fin S16384x1024.rank)
  bcast_S_S16384 : S_.BroadcastsInDim S16384 (![] : Fin 0 → Fin S16384.rank)

variable [Facts]

def fn_part1 {F : FTy → Type} [FloatOps F] (main_v6 : FVec F S32x16384x512 .f32) (main_v9 : FVec F S16384 .f32) (main_v13 : IVec S16384x1024 1) (main_v17 : IVec S16384x1024 1) (main_v18 : IVec S32x16384x512 1) (main_cst_2 : FVec F S_ .f32) : IVec S16384x1024 1 × IVec S16384x1024 1 × IVec S32x16384x512 1 × IVec S32x16384x512 1 × IVec S16384 1 :=
  let main_v19 : FVec F S32x16384x512 .f32 := broadcastInDim S32x16384x512 ![] bcast_S_S32x16384x512 main_cst_2
  let main_v20 : IVec S32x16384x512 1 := cmpf .oeq main_v6 main_v19
  let main_v21 : IVec S32x16384x512 1 := ori main_v18 main_v20
  let main_cst_3 : FVec F S_ .f32 := constant S_ .f32 0x7F800000#32
  let main_v22 : FVec F S32x16384x512 .f32 := broadcastInDim S32x16384x512 ![] bcast_S_S32x16384x512 main_cst_3
  let main_v23 : IVec S32x16384x512 1 := cmpf .olt main_v6 main_v22
  let main_cst_4 : FVec F S_ .f32 := constant S_ .f32 0xFF800000#32
  let main_v24 : FVec F S16384 .f32 := broadcastInDim S16384 ![] bcast_S_S16384 main_cst_4
  let main_v25 : IVec S16384 1 := cmpf .ogt main_v9 main_v24
  (main_v13, main_v17, main_v21, main_v23, main_v25)

def fn {F : FTy → Type} [FloatOps F] (main_arg0 : FVec F S16384x1024 .bf16) (main_arg1 : FVec F S16384x1024 .bf16) (main_arg2 : FVec F S16384x1024 .bf16) (main_arg3 : FVec F S32x16384x512 .bf16) : IVec S16384x1024 1 × IVec S16384x1024 1 × IVec S32x16384x512 1 × IVec S32x16384x512 1 × IVec S16384 1 :=
  let main_v0 : IVec S32x16384x512 32 := iotaInDim S32x16384x512 32 0
  let main_c : IVec S_ 32 := constantI S_ 32 512#32
  let main_v1 : IVec S32x16384x512 32 := broadcastInDim S32x16384x512 ![] bcast_S_S32x16384x512 main_c
  let main_v2 : IVec S32x16384x512 32 := muli main_v0 main_v1
  let main_v3 : IVec S32x16384x512 32 := iotaInDim S32x16384x512 32 2
  let main_v4 : IVec S32x16384x512 32 := addi main_v2 main_v3
  let main_v5 : IVec S32x16384x512 32 := iotaInDim S32x16384x512 32 1
  let main_v6 : FVec F S32x16384x512 .f32 := (extf .f32 · bitsLt_bf16_f32) main_arg3
  let main_v7 : FVec F S16384x32x512 .f32 := (transpose S16384x32x512 [1, 0, 2] · transposes_S32x16384x512_S16384x32x512_1_0_2) main_v6
  let main_v8 : FVec F S16384x16384 .f32 := shapeCast S16384x16384 main_v7 shapeCasts_S16384x32x512_S16384x16384
  let main_cst : FVec F S_ .f32 := constant S_ .f32 0xFF800000#32
  let main_v9 : FVec F S16384 .f32 := (fun x v => Host.reduce FloatOps.maximumf x v reducesTo_S16384x16384_S16384_d1 h_S_) main_v8 main_cst
  let main_v10 : FVec F S16384x1024 .f32 := (extf .f32 · bitsLt_bf16_f32) main_arg0
  let main_v11 : FVec F S16384x1024 .f32 := Host.absf main_v10
  let main_cst_0 : FVec F S_ .f32 := constant S_ .f32 0x7F800000#32
  let main_v12 : FVec F S16384x1024 .f32 := broadcastInDim S16384x1024 ![] bcast_S_S16384x1024 main_cst_0
  let main_v13 : IVec S16384x1024 1 := cmpf .olt main_v11 main_v12
  let main_v14 : FVec F S16384x1024 .f32 := (extf .f32 · bitsLt_bf16_f32) main_arg1
  let main_v15 : FVec F S16384x1024 .f32 := Host.absf main_v14
  let main_cst_1 : FVec F S_ .f32 := constant S_ .f32 0x7F800000#32
  let main_v16 : FVec F S16384x1024 .f32 := broadcastInDim S16384x1024 ![] bcast_S_S16384x1024 main_cst_1
  let main_v17 : IVec S16384x1024 1 := cmpf .olt main_v15 main_v16
  let main_v18 : IVec S32x16384x512 1 := cmpi .sle main_v4 main_v5
  let main_cst_2 : FVec F S_ .f32 := constant S_ .f32 0xFF800000#32
  fn_part1 (F := F) main_v6 main_v9 main_v13 main_v17 main_v18 main_cst_2
-- ==== Kernel.lean ====
abbrev S256x7680 : Shape := ⟨2, ![256, 7680]⟩
abbrev S16x512 : Shape := ⟨2, ![16, 512]⟩
abbrev S512 : Shape := ⟨1, ![512]⟩
abbrev S256 : Shape := ⟨1, ![256]⟩
abbrev S32x4x128x256 : Shape := ⟨4, ![32, 4, 128, 256]⟩
abbrev S1x512 : Shape := ⟨2, ![1, 512]⟩
abbrev S1x256 : Shape := ⟨2, ![1, 256]⟩
abbrev S256x1024 : Shape := ⟨2, ![256, 1024]⟩
abbrev S8x512 : Shape := ⟨2, ![8, 512]⟩
abbrev S8x1024 : Shape := ⟨2, ![8, 1024]⟩
abbrev S8x128 : Shape := ⟨2, ![8, 128]⟩
abbrev S1x4x128x256 : Shape := ⟨4, ![1, 4, 128, 256]⟩
abbrev S4x256x128 : Shape := ⟨3, ![4, 256, 128]⟩
abbrev S1x1x128x256 : Shape := ⟨4, ![1, 1, 128, 256]⟩
abbrev S128x256 : Shape := ⟨2, ![128, 256]⟩
abbrev S256x128 : Shape := ⟨2, ![256, 128]⟩
abbrev S1x256x128 : Shape := ⟨3, ![1, 256, 128]⟩
abbrev S8x16 : Shape := ⟨2, ![8, 16]⟩
abbrev S8x1 : Shape := ⟨2, ![8, 1]⟩
abbrev S8x256 : Shape := ⟨2, ![8, 256]⟩
abbrev S1x128 : Shape := ⟨2, ![1, 128]⟩
abbrev S8 : Shape := ⟨1, ![8]⟩

abbrev nBuf : Space → Nat
  | .hbm => 10
  | .vmem => 22
  | .smem => 0
  | _ => 0

abbrev bufTy : (tb : Table) → Fin (tcTables nBuf tb) → BufTy
  | .hbm, ⟨0, _⟩ => ⟨S256x7680, .f32⟩
  | .hbm, ⟨1, _⟩ => ⟨S16x512, .f32⟩
  | .hbm, ⟨2, _⟩ => ⟨S512, .f32⟩
  | .hbm, ⟨3, _⟩ => ⟨S256, .f32⟩
  | .hbm, ⟨4, _⟩ => ⟨S32x4x128x256, .f32⟩
  | .hbm, ⟨5, _⟩ => ⟨S16x512, .bf16⟩
  | .hbm, ⟨6, _⟩ => ⟨S1x512, .f32⟩
  | .hbm, ⟨7, _⟩ => ⟨S1x256, .f32⟩
  | .hbm, ⟨8, _⟩ => ⟨S256x1024, .bf16⟩
  | .hbm, ⟨9, _⟩ => ⟨S32x4x128x256, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x128, .f32⟩
  | .local _ .vmem, ⟨9, _⟩ => ⟨S8x128, .f32⟩
  | .local _ .vmem, ⟨10, _⟩ => ⟨S16x512, .bf16⟩
  | .local _ .vmem, ⟨11, _⟩ => ⟨S1x512, .f32⟩
  | .local _ .vmem, ⟨12, _⟩ => ⟨S1x256, .f32⟩
  | .local _ .vmem, ⟨13, _⟩ => ⟨S1x4x128x256, .f32⟩
  | .local _ .vmem, ⟨14, _⟩ => ⟨S1x4x128x256, .f32⟩
  | .local _ .vmem, ⟨15, _⟩ => ⟨S8x1024, .bf16⟩
  | .local _ .vmem, ⟨16, _⟩ => ⟨S8x1024, .bf16⟩
  | .local _ .vmem, ⟨17, _⟩ => ⟨S1x4x128x256, .f32⟩
  | .local _ .vmem, ⟨18, _⟩ => ⟨S1x4x128x256, .f32⟩
  | .local _ .vmem, ⟨19, _⟩ => ⟨S4x256x128, .f32⟩
  | .local _ .vmem, ⟨20, _⟩ => ⟨S8x512, .f32⟩
  | .local _ .vmem, ⟨21, _⟩ => ⟨S8x1024, .f32⟩
  | _, _ => ⟨S256x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![32, 1], ![false, false]⟩

def k0_mult1 : BitVec 32 :=
  let c0_i32_16 : BitVec 32 := 0#32
  let c8_i32 : BitVec 32 := 8#32
  let v47 : BitVec 32 := Scalar.muli c0_i32_16 c8_i32
  v47
def k0_off1 : Fin 2 → Nat :=
  let c0_i32_16 : BitVec 32 := 0#32
  let c8_i32 : BitVec 32 := 8#32
  let v47 : BitVec 32 := Scalar.muli c0_i32_16 c8_i32
  let v48 : BitVec 32 := v47
  let v49 : Index := Scalar.indexCast v48
  let c0_17 : Index := 0#32
  ![v49.toNat, 0]
def k0_off2 : Fin 2 → Nat :=
  let c0_i32_16 : BitVec 32 := 0#32
  let c8_i32 : BitVec 32 := 8#32
  let v47 : BitVec 32 := Scalar.muli c0_i32_16 c8_i32
  let v48 : BitVec 32 := v47
  let v57 : Index := Scalar.indexCast v48
  let c0_21 : Index := 0#32
  ![v57.toNat, 0]
def k0_off3 : Fin 2 → Nat :=
  let c0_i32_16 : BitVec 32 := 0#32
  let c8_i32 : BitVec 32 := 8#32
  let v47 : BitVec 32 := Scalar.muli c0_i32_16 c8_i32
  let v48 : BitVec 32 := v47
  let v263 : Index := Scalar.indexCast v48
  let c128 : Index := 128#32
  ![v263.toNat, 128]
def k0_off4 : Fin 2 → Nat :=
  let c0_i32_16 : BitVec 32 := 0#32
  let c8_i32 : BitVec 32 := 8#32
  let v47 : BitVec 32 := Scalar.muli c0_i32_16 c8_i32
  let v48 : BitVec 32 := v47
  let v271 : Index := Scalar.indexCast v48
  let c256 : Index := 256#32
  ![v271.toNat, 256]
def k0_off5 : Fin 2 → Nat :=
  let c0_i32_16 : BitVec 32 := 0#32
  let c8_i32 : BitVec 32 := 8#32
  let v47 : BitVec 32 := Scalar.muli c0_i32_16 c8_i32
  let v48 : BitVec 32 := v47
  let v477 : Index := Scalar.indexCast v48
  let c256_119 : Index := 256#32
  ![v477.toNat, 256]
def k0_off6 : Fin 2 → Nat :=
  let c0_i32_16 : BitVec 32 := 0#32
  let c8_i32 : BitVec 32 := 8#32
  let v47 : BitVec 32 := Scalar.muli c0_i32_16 c8_i32
  let v48 : BitVec 32 := v47
  let v485 : Index := Scalar.indexCast v48
  let c512 : Index := 512#32
  ![v485.toNat, 512]
def k0_off7 : Fin 2 → Nat :=
  let c0_i32_16 : BitVec 32 := 0#32
  let c8_i32 : BitVec 32 := 8#32
  let v47 : BitVec 32 := Scalar.muli c0_i32_16 c8_i32
  let v48 : BitVec 32 := v47
  let v691 : Index := Scalar.indexCast v48
  let c384 : Index := 384#32
  ![v691.toNat, 384]
def k0_off8 : Fin 2 → Nat :=
  let c0_i32_16 : BitVec 32 := 0#32
  let c8_i32 : BitVec 32 := 8#32
  let v47 : BitVec 32 := Scalar.muli c0_i32_16 c8_i32
  let v48 : BitVec 32 := v47
  let v699 : Index := Scalar.indexCast v48
  let c768 : Index := 768#32
  ![v699.toNat, 768]
def k0_cond2 (i : grid0.Coords) : BitVec 1 :=
  let arg1 : BitVec 32 := BitVec.ofNat 32 (i 1).val
  let c0_i32_264 : BitVec 32 := 0#32
  let v990 : BitVec 1 := Scalar.cmpi .eq arg1 c0_i32_264
  let v991 : BitVec 32 := Scalar.extui v990
  let c0_i32_265 : BitVec 32 := 0#32
  let v992 : BitVec 1 := Scalar.cmpi .ne v991 c0_i32_265
  v992

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c56_i32 : BitVec 32 := 56#32
  let c0_i32 : BitVec 32 := 0#32
  ![v1.toNat, c56_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S16x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S256x7680 : Shape := ⟨2, ![256, 7680]⟩
abbrev S16x512 : Shape := ⟨2, ![16, 512]⟩
abbrev S512 : Shape := ⟨1, ![512]⟩
abbrev S256 : Shape := ⟨1, ![256]⟩
abbrev S32x4x128x256 : Shape := ⟨4, ![32, 4, 128, 256]⟩
abbrev S32x8x7680 : Shape := ⟨3, ![32, 8, 7680]⟩
abbrev S32x8x512 : Shape := ⟨3, ![32, 8, 512]⟩
abbrev S32x8x4x128 : Shape := ⟨4, ![32, 8, 4, 128]⟩
abbrev S32x8x1024 : Shape := ⟨3, ![32, 8, 1024]⟩
abbrev S32x8x4x256 : Shape := ⟨4, ![32, 8, 4, 256]⟩
abbrev S32x8x16 : Shape := ⟨3, ![32, 8, 16]⟩
abbrev S1x1x512 : Shape := ⟨3, ![1, 1, 512]⟩
abbrev S_ : Shape := ⟨0, ![]⟩
abbrev S32x4x8x128 : Shape := ⟨4, ![32, 4, 8, 128]⟩
abbrev S32x4x8x256 : Shape := ⟨4, ![32, 4, 8, 256]⟩
abbrev S8x8 : Shape := ⟨2, ![8, 8]⟩
abbrev S8x8x1 : Shape := ⟨3, ![8, 8, 1]⟩
abbrev S32x4x8x1x128 : Shape := ⟨5, ![32, 4, 8, 1, 128]⟩
abbrev S32x4x1x8x128 : Shape := ⟨5, ![32, 4, 1, 8, 128]⟩
abbrev S32x4x8x8x128 : Shape := ⟨5, ![32, 4, 8, 8, 128]⟩
abbrev S32x4x8x8 : Shape := ⟨4, ![32, 4, 8, 8]⟩
abbrev S32x4x1x128 : Shape := ⟨4, ![32, 4, 1, 128]⟩
abbrev S32x4x128 : Shape := ⟨3, ![32, 4, 128]⟩
abbrev S32x4x128x1 : Shape := ⟨4, ![32, 4, 128, 1]⟩
abbrev S32x8x4 : Shape := ⟨3, ![32, 8, 4]⟩
abbrev S32x8x4x1 : Shape := ⟨4, ![32, 8, 4, 1]⟩
abbrev S1x1x1x256 : Shape := ⟨4, ![1, 1, 1, 256]⟩
abbrev S256x1024 : Shape := ⟨2, ![256, 1024]⟩

abbrev nBuf : Space → Nat
  | .hbm => 131
  | .vmem => 0
  | .smem => 0
  | _ => 0

abbrev hbmTy0_0 (i : Nat) : BufTy := match i % 128 with
  | 0 => ⟨S256x7680, .f32⟩
  | 1 => ⟨S16x512, .f32⟩
  | 2 => ⟨S512, .f32⟩
  | 3 => ⟨S256, .f32⟩
  | 4 => ⟨S32x4x128x256, .f32⟩
  | 5 => ⟨S32x8x7680, .f32⟩
  | 6 => ⟨S32x8x512, .f32⟩
  | 7 => ⟨S32x8x4x128, .f32⟩
  | 8 => ⟨S32x8x512, .f32⟩
  | 9 => ⟨S32x8x4x128, .f32⟩
  | 10 => ⟨S32x8x1024, .f32⟩
  | 11 => ⟨S32x8x4x256, .f32⟩
  | 12 => ⟨S32x8x1024, .f32⟩
  | 13 => ⟨S32x8x16, .f32⟩
  | 14 => ⟨S32x8x512, .f32⟩
  | 15 => ⟨S1x1x512, .f32⟩
  | 16 => ⟨S32x8x512, .f32⟩
  | 17 => ⟨S32x8x512, .f32⟩
  | 18 => ⟨S32x8x512, .f32⟩
  | 19 => ⟨S_, .f32⟩
  | 20 => ⟨S32x8x512, .f32⟩
  | 21 => ⟨S32x8x512, .f32⟩
  | 22 => ⟨S32x8x512, .f32⟩
  | 23 => ⟨S32x8x512, .f32⟩
  | 24 => ⟨S32x8x512, .i1⟩
  | 25 => ⟨S32x8x512, .f32⟩
  | 26 => ⟨S32x8x512, .f32⟩
  | 27 => ⟨S32x8x512, .f32⟩
  | 28 => ⟨S32x8x512, .f32⟩
  | 29 => ⟨S32x8x512, .f32⟩
  | 30 => ⟨S32x8x512, .f32⟩
  | 31 => ⟨S32x8x512, .f32⟩
  | 32 => ⟨S32x8x512, .f32⟩
  | 33 => ⟨S32x8x512, .f32⟩
  | 34 => ⟨S_, .f32⟩
  | 35 => ⟨S32x8x512, .f32⟩
  | 36 => ⟨S32x8x512, .f32⟩
  | 37 => ⟨S32x8x4x128, .f32⟩
  | 38 => ⟨S_, .f32⟩
  | 39 => ⟨S32x8x4x128, .f32⟩
  | 40 => ⟨S32x8x4x128, .f32⟩
  | 41 => ⟨S32x4x8x128, .f32⟩
  | 42 => ⟨S32x4x8x128, .f32⟩
  | 43 => ⟨S32x4x8x256, .f32⟩
  | 44 => ⟨S32x4x8x128, .f32⟩
  | 45 => ⟨S_, .i1⟩
  | 46 => ⟨S8x8, .i1⟩
  | 47 => ⟨S8x8, .i32⟩
  | 48 => ⟨S_, .i32⟩
  | 49 => ⟨S8x8, .i32⟩
  | 50 => ⟨S8x8, .i32⟩
  | 51 => ⟨S8x8, .i32⟩
  | 52 => ⟨S8x8, .i1⟩
  | 53 => ⟨S_, .i1⟩
  | 54 => ⟨S8x8, .i1⟩
  | 55 => ⟨S8x8, .i1⟩
  | 56 => ⟨S8x8x1, .i1⟩
  | 57 => ⟨S_, .f32⟩
  | 58 => ⟨S_, .f32⟩
  | 59 => ⟨S32x4x8x128, .f32⟩
  | 60 => ⟨S32x4x8x128, .f32⟩
  | 61 => ⟨S32x4x8x128, .f32⟩
  | 62 => ⟨S32x4x8x256, .f32⟩
  | 63 => ⟨S32x4x8x1x128, .f32⟩
  | 64 => ⟨S32x4x1x8x128, .f32⟩
  | 65 => ⟨S32x4x8x8x128, .f32⟩
  | 66 => ⟨S32x4x8x8x128, .f32⟩
  | 67 => ⟨S32x4x8x8x128, .f32⟩
  | 68 => ⟨S_, .f32⟩
  | 69 => ⟨S_, .f32⟩
  | 70 => ⟨S32x4x8x8x128, .i1⟩
  | 71 => ⟨S32x4x8x8x128, .f32⟩
  | 72 => ⟨S32x4x8x8x128, .f32⟩
  | 73 => ⟨S32x4x8x8x128, .f32⟩
  | 74 => ⟨S_, .f32⟩
  | 75 => ⟨S_, .f32⟩
  | 76 => ⟨S32x4x8x8x128, .i1⟩
  | 77 => ⟨S32x4x8x8x128, .f32⟩
  | 78 => ⟨S32x4x8x8x128, .f32⟩
  | 79 => ⟨S32x4x8x1x128, .f32⟩
  | 80 => ⟨S32x4x1x8x128, .f32⟩
  | 81 => ⟨S32x4x8x8x128, .f32⟩
  | 82 => ⟨S32x4x8x8x128, .f32⟩
  | 83 => ⟨S32x4x8x8x128, .f32⟩
  | 84 => ⟨S32x4x8x8x128, .f32⟩
  | 85 => ⟨S_, .f32⟩
  | 86 => ⟨S32x4x8x8, .f32⟩
  | 87 => ⟨S32x4x8x256, .f32⟩
  | 88 => ⟨S32x4x1x128, .f32⟩
  | 89 => ⟨S32x4x128, .f32⟩
  | 90 => ⟨S32x4x128, .f32⟩
  | 91 => ⟨S32x4x128x1, .f32⟩
  | 92 => ⟨S32x4x128x256, .f32⟩
  | 93 => ⟨S32x4x128x256, .f32⟩
  | 94 => ⟨S32x4x8x128, .f32⟩
  | 95 => ⟨S32x4x8x128, .f32⟩
  | 96 => ⟨S32x4x8x128, .f32⟩
  | 97 => ⟨S32x4x8x128, .f32⟩
  | 98 => ⟨S32x4x128x256, .f32⟩
  | 99 => ⟨S32x4x128x256, .f32⟩
  | 100 => ⟨S32x4x8x256, .f32⟩
  | 101 => ⟨S32x8x4x256, .f32⟩
  | 102 => ⟨S32x8x4x256, .f32⟩
  | 103 => ⟨S_, .f32⟩
  | 104 => ⟨S32x8x4, .f32⟩
  | 105 => ⟨S32x8x4x1, .f32⟩
  | 106 => ⟨S_, .f32⟩
  | 107 => ⟨S32x8x4x1, .f32⟩
  | 108 => ⟨S32x8x4x1, .f32⟩
  | 109 => ⟨S_, .f32⟩
  | 110 => ⟨S32x8x4x1, .f32⟩
  | 111 => ⟨S32x8x4x1, .f32⟩
  | 112 => ⟨S32x8x4x1, .f32⟩
  | 113 => ⟨S32x8x4x256, .f32⟩
  | 114 => ⟨S32x8x4x256, .f32⟩
  | 115 => ⟨S1x1x1x256, .f32⟩
  | 116 => ⟨S32x8x4x256, .f32⟩
  | 117 => ⟨S32x8x4x256, .f32⟩
  | 118 => ⟨S32x8x1024, .f32⟩
  | 119 => ⟨S32x8x1024, .f32⟩
  | 120 => ⟨S32x8x1024, .f32⟩
  | 121 => ⟨S_, .f32⟩
  | 122 => ⟨S32x8x1024, .f32⟩
  | 123 => ⟨S32x8x1024, .f32⟩
  | 124 => ⟨S_, .f32⟩
  | 125 => ⟨S32x8x1024, .f32⟩
  | 126 => ⟨S32x8x1024, .f32⟩
  | 127 => ⟨S32x8x1024, .f32⟩
  | _ => ⟨S256x7680, .f32⟩

abbrev hbmTy0_1 (i : Nat) : BufTy := match i % 128 with
  | 0 => ⟨S32x8x1024, .f32⟩
  | 1 => ⟨S256x1024, .f32⟩
  | 2 => ⟨S256x1024, .bf16⟩
  | _ => ⟨S256x7680, .f32⟩

abbrev hbmTy (i : Nat) : BufTy := match i / 128 with
  | 0 => hbmTy0_0 i
  | 1 => hbmTy0_1 i
  | _ => ⟨S256x7680, .f32⟩

abbrev bufTy : (tb : Table) → Fin (tcTables nBuf tb) → BufTy
  | .hbm, ⟨i, _⟩ => hbmTy i
  | _, _ => ⟨S256x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c : Ref sig .tc := ⟨.hbm, 45, rfl⟩
abbrev main_v23 : Ref sig .tc := ⟨.hbm, 46, rfl⟩
abbrev main_call1_v0 : Ref sig .tc := ⟨.hbm, 47, rfl⟩
abbrev main_call1_c : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_0 : Ref sig .tc := ⟨.hbm, 53, rfl⟩
abbrev main_call1_v5 : Ref sig .tc := ⟨.hbm, 54, rfl⟩
abbrev main_v24 : Ref sig .tc := ⟨.hbm, 55, rfl⟩
abbrev main_v25 : Ref sig .tc := ⟨.hbm, 56, rfl⟩
abbrev main_call2_call0_cst : Ref sig .tc := ⟨.hbm, 57, rfl⟩
abbrev main_call2_call0_v0 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_1 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_v35 : Ref sig .tc := ⟨.hbm, 72, rfl⟩
abbrev main_v36 : Ref sig .tc := ⟨.hbm, 73, rfl⟩
abbrev main_cst_2 : Ref sig .tc := ⟨.hbm, 74, rfl⟩
abbrev main_call4_v0 : Ref sig .tc := ⟨.hbm, 75, rfl⟩
abbrev main_call4_v1 : Ref sig .tc := ⟨.hbm, 76, rfl⟩
abbrev main_call4_v2 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_cst_3 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_cst_4 : Ref sig .tc := ⟨.hbm, 103, rfl⟩
abbrev main_v61 : Ref sig .tc := ⟨.hbm, 104, rfl⟩
abbrev main_v62 : Ref sig .tc := ⟨.hbm, 105, rfl⟩
abbrev main_cst_5 : Ref sig .tc := ⟨.hbm, 106, rfl⟩
abbrev main_v63 : Ref sig .tc := ⟨.hbm, 107, rfl⟩
abbrev main_v64 : Ref sig .tc := ⟨.hbm, 108, rfl⟩
abbrev main_cst_6 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_call5_v0 : Ref sig .tc := ⟨.hbm, 119, rfl⟩
abbrev main_call5_v1 : Ref sig .tc := ⟨.hbm, 120, rfl⟩
abbrev main_call5_cst : Ref sig .tc := ⟨.hbm, 121, rfl⟩
abbrev main_call5_v2 : Ref sig .tc := ⟨.hbm, 122, rfl⟩
abbrev main_call5_v3 : Ref sig .tc := ⟨.hbm, 123, rfl⟩
abbrev main_call5_cst_0 : Ref sig .tc := ⟨.hbm, 124, rfl⟩
abbrev main_call5_v4 : Ref sig .tc := ⟨.hbm, 125, rfl⟩
abbrev main_call5_v5 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩

abbrev nD : Nat := 1
abbrev τ : Topo := Topo.v7x

variable {F : FTy → Type} [FloatOps F]
-- ==== Kernel2.lean ====
abbrev S16384x2048 : Shape := ⟨2, ![16384, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 10
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S2048x8192, .bf16⟩
  | .hbm, ⟨6, _⟩ => ⟨S8192x2048, .bf16⟩
  | .hbm, ⟨7, _⟩ => ⟨S1x2048, .f32⟩
  | .hbm, ⟨8, _⟩ => ⟨S1x2048, .f32⟩
  | .hbm, ⟨9, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 16], ![false, false]⟩

def k0_cond2 (i : grid0.Coords) : BitVec 1 :=
  let arg1 : BitVec 32 := BitVec.ofNat 32 (i 1).val
  let c15_i32 : BitVec 32 := 15#32
  let v19 : BitVec 1 := Scalar.cmpi .eq arg1 c15_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16384x2048 : Shape := ⟨2, ![16384, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x8192 : Shape := ⟨2, ![16384, 8192]⟩

abbrev nBuf : Space → Nat
  | .hbm => 44
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x8192, .f32⟩
  | .hbm, ⟨22, _⟩ => ⟨S_, .f32⟩
  | .hbm, ⟨23, _⟩ => ⟨S16384x8192, .f32⟩
  | .hbm, ⟨24, _⟩ => ⟨S16384x8192, .f32⟩
  | .hbm, ⟨25, _⟩ => ⟨S16384x8192, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x2048, .f32⟩
  | .hbm, ⟨40, _⟩ => ⟨S16384x2048, .f32⟩
  | .hbm, ⟨41, _⟩ => ⟨S1x2048, .f32⟩
  | .hbm, ⟨42, _⟩ => ⟨S16384x2048, .f32⟩
  | .hbm, ⟨43, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel3.lean ====
abbrev S16384x2048 : Shape := ⟨2, ![16384, 2048]⟩
abbrev S2048 : Shape := ⟨1, ![2048]⟩
abbrev S2048x7264 : Shape := ⟨2, ![2048, 7264]⟩
abbrev S2048x512 : Shape := ⟨2, ![2048, 512]⟩
abbrev S2048x1024 : Shape := ⟨2, ![2048, 1024]⟩
abbrev S2048x16 : Shape := ⟨2, ![2048, 16]⟩
abbrev S2048x64 : Shape := ⟨2, ![2048, 64]⟩
abbrev S_ : Shape := ⟨0, ![]⟩
abbrev S2048x416 : Shape := ⟨2, ![2048, 416]⟩
abbrev S2048x7680 : Shape := ⟨2, ![2048, 7680]⟩
abbrev S1x2048 : Shape := ⟨2, ![1, 2048]⟩
abbrev S16384x7680 : Shape := ⟨2, ![16384, 7680]⟩
abbrev S512x2048 : Shape := ⟨2, ![512, 2048]⟩
abbrev S2048x1536 : Shape := ⟨2, ![2048, 1536]⟩
abbrev S512x1536 : Shape := ⟨2, ![512, 1536]⟩
abbrev S512 : Shape := ⟨1, ![512]⟩
abbrev S512x1 : Shape := ⟨2, ![512, 1]⟩
abbrev S16384x1024 : Shape := ⟨2, ![16384, 1024]⟩
abbrev S1x1x16384x8x128 : Shape := ⟨5, ![1, 1, 16384, 8, 128]⟩
abbrev S16384x64 : Shape := ⟨2, ![16384, 64]⟩
abbrev S1x1x16384x64 : Shape := ⟨4, ![1, 1, 16384, 64]⟩

abbrev nBuf : Space → Nat
  | .hbm => 26
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x7264, .f32⟩
  | .hbm, ⟨3, _⟩ => ⟨S2048x512, .f32⟩
  | .hbm, ⟨4, _⟩ => ⟨S2048x512, .f32⟩
  | .hbm, ⟨5, _⟩ => ⟨S2048x1024, .f32⟩
  | .hbm, ⟨6, _⟩ => ⟨S2048x1024, .f32⟩
  | .hbm, ⟨7, _⟩ => ⟨S2048x16, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x16, .f32⟩
  | .hbm, ⟨13, _⟩ => ⟨S2048x64, .f32⟩
  | .hbm, ⟨14, _⟩ => ⟨S_, .f32⟩
  | .hbm, ⟨15, _⟩ => ⟨S2048x416, .f32⟩
  | .hbm, ⟨16, _⟩ => ⟨S2048x7680, .f32⟩
  | .hbm, ⟨17, _⟩ => ⟨S2048x7680, .bf16⟩
  | .hbm, ⟨18, _⟩ => ⟨S1x2048, .f32⟩
  | .hbm, ⟨19, _⟩ => ⟨S16384x7680, .f32⟩
  | .hbm, ⟨20, _⟩ => ⟨S16384x1024, .f32⟩
  | .hbm, ⟨21, _⟩ => ⟨S16384x1024, .f32⟩
  | .hbm, ⟨22, _⟩ => ⟨S1x1x16384x8x128, .f32⟩
  | .hbm, ⟨23, _⟩ => ⟨S1x1x16384x8x128, .f32⟩
  | .hbm, ⟨24, _⟩ => ⟨S16384x64, .f32⟩
  | .hbm, ⟨25, _⟩ => ⟨S1x1x16384x64, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1536, .bf16⟩
  | .local _ .vmem, ⟨4, _⟩ => ⟨S2048x1536, .bf16⟩
  | .local _ .vmem, ⟨5, _⟩ => ⟨S512x1536, .f32⟩
  | .local _ .vmem, ⟨6, _⟩ => ⟨S512x1536, .f32⟩
  | .local _ .vmem, ⟨7, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x2048 : Shape := ⟨2, ![16384, 2048]⟩
abbrev S2048 : Shape := ⟨1, ![2048]⟩
abbrev S2048x7264 : Shape := ⟨2, ![2048, 7264]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x7264 : Shape := ⟨2, ![16384, 7264]⟩
abbrev S16384x512 : Shape := ⟨2, ![16384, 512]⟩
abbrev S16384x1024 : Shape := ⟨2, ![16384, 1024]⟩
abbrev S16384x16 : Shape := ⟨2, ![16384, 16]⟩
abbrev S16384x64 : Shape := ⟨2, ![16384, 64]⟩
abbrev S16384x416 : Shape := ⟨2, ![16384, 416]⟩
abbrev S16384x7680 : Shape := ⟨2, ![16384, 7680]⟩
abbrev S1x1x16384x8x128 : Shape := ⟨5, ![1, 1, 16384, 8, 128]⟩
abbrev S1x1x16384x64 : Shape := ⟨4, ![1, 1, 16384, 64]⟩

abbrev nBuf : Space → Nat
  | .hbm => 37
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x7264, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x7264, .f32⟩
  | .hbm, ⟨20, _⟩ => ⟨S16384x512, .f32⟩
  | .hbm, ⟨21, _⟩ => ⟨S16384x512, .f32⟩
  | .hbm, ⟨22, _⟩ => ⟨S16384x1024, .f32⟩
  | .hbm, ⟨23, _⟩ => ⟨S16384x1024, .f32⟩
  | .hbm, ⟨24, _⟩ => ⟨S16384x16, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x16, .f32⟩
  | .hbm, ⟨30, _⟩ => ⟨S16384x64, .f32⟩
  | .hbm, ⟨31, _⟩ => ⟨S_, .f32⟩
  | .hbm, ⟨32, _⟩ => ⟨S16384x416, .f32⟩
  | .hbm, ⟨33, _⟩ => ⟨S16384x7680, .f32⟩
  | .hbm, ⟨34, _⟩ => ⟨S1x1x16384x8x128, .f32⟩
  | .hbm, ⟨35, _⟩ => ⟨S1x1x16384x8x128, .f32⟩
  | .hbm, ⟨36, _⟩ => ⟨S1x1x16384x64, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Kernel4.lean ====
abbrev S16384x2048 : Shape := ⟨2, ![16384, 2048]⟩
abbrev S16384x1024 : Shape := ⟨2, ![16384, 1024]⟩
abbrev S2048x2048 : Shape := ⟨2, ![2048, 2048]⟩
abbrev S1024x2048 : Shape := ⟨2, ![1024, 2048]⟩
abbrev S512x1024 : Shape := ⟨2, ![512, 1024]⟩
abbrev S1024x1024 : Shape := ⟨2, ![1024, 1024]⟩

abbrev nBuf : Space → Nat
  | .hbm => 9
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .f32⟩
  | .hbm, ⟨4, _⟩ => ⟨S1024x2048, .f32⟩
  | .hbm, ⟨5, _⟩ => ⟨S1024x2048, .bf16⟩
  | .hbm, ⟨6, _⟩ => ⟨S1024x2048, .f32⟩
  | .hbm, ⟨7, _⟩ => ⟨S1024x2048, .bf16⟩
  | .hbm, ⟨8, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S16384x2048 : Shape := ⟨2, ![16384, 2048]⟩
abbrev S16384x1024 : Shape := ⟨2, ![16384, 1024]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .f32⟩
  | .hbm, ⟨4, _⟩ => ⟨S16384x1024, .f32⟩
  | .hbm, ⟨5, _⟩ => ⟨S16384x1024, .f32⟩
  | .hbm, ⟨6, _⟩ => ⟨S16384x2048, .f32⟩
  | .hbm, ⟨7, _⟩ => ⟨S16384x2048, .f32⟩
  | .hbm, ⟨8, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel5.lean ====
abbrev S256x2048 : Shape := ⟨2, ![256, 2048]⟩
abbrev S2048 : Shape := ⟨1, ![2048]⟩
abbrev S2048x7264 : Shape := ⟨2, ![2048, 7264]⟩
abbrev S2048x512 : Shape := ⟨2, ![2048, 512]⟩
abbrev S2048x1024 : Shape := ⟨2, ![2048, 1024]⟩
abbrev S2048x16 : Shape := ⟨2, ![2048, 16]⟩
abbrev S2048x64 : Shape := ⟨2, ![2048, 64]⟩
abbrev S_ : Shape := ⟨0, ![]⟩
abbrev S2048x416 : Shape := ⟨2, ![2048, 416]⟩
abbrev S2048x7680 : Shape := ⟨2, ![2048, 7680]⟩
abbrev S1x2048 : Shape := ⟨2, ![1, 2048]⟩
abbrev S256x7680 : Shape := ⟨2, ![256, 7680]⟩
abbrev S2048x1536 : Shape := ⟨2, ![2048, 1536]⟩
abbrev S256x1536 : Shape := ⟨2, ![256, 1536]⟩
abbrev S256 : Shape := ⟨1, ![256]⟩
abbrev S256x1 : Shape := ⟨2, ![256, 1]⟩
abbrev S256x1024 : Shape := ⟨2, ![256, 1024]⟩
abbrev S1x32x8x8x128 : Shape := ⟨5, ![1, 32, 8, 8, 128]⟩
abbrev S256x64 : Shape := ⟨2, ![256, 64]⟩
abbrev S1x32x8x64 : Shape := ⟨4, ![1, 32, 8, 64]⟩

abbrev nBuf : Space → Nat
  | .hbm => 26
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S2048x7264, .f32⟩
  | .hbm, ⟨3, _⟩ => ⟨S2048x512, .f32⟩
  | .hbm, ⟨4, _⟩ => ⟨S2048x512, .f32⟩
  | .hbm, ⟨5, _⟩ => ⟨S2048x1024, .f32⟩
  | .hbm, ⟨6, _⟩ => ⟨S2048x1024, .f32⟩
  | .hbm, ⟨7, _⟩ => ⟨S2048x16, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x16, .f32⟩
  | .hbm, ⟨13, _⟩ => ⟨S2048x64, .f32⟩
  | .hbm, ⟨14, _⟩ => ⟨S_, .f32⟩
  | .hbm, ⟨15, _⟩ => ⟨S2048x416, .f32⟩
  | .hbm, ⟨16, _⟩ => ⟨S2048x7680, .f32⟩
  | .hbm, ⟨17, _⟩ => ⟨S2048x7680, .bf16⟩
  | .hbm, ⟨18, _⟩ => ⟨S1x2048, .f32⟩
  | .hbm, ⟨19, _⟩ => ⟨S256x7680, .f32⟩
  | .hbm, ⟨20, _⟩ => ⟨S256x1024, .f32⟩
  | .hbm, ⟨21, _⟩ => ⟨S1x32x8x8x128, .f32⟩
  | .hbm, ⟨22, _⟩ => ⟨S256x1024, .f32⟩
  | .hbm, ⟨23, _⟩ => ⟨S1x32x8x8x128, .f32⟩
  | .hbm, ⟨24, _⟩ => ⟨S256x64, .f32⟩
  | .hbm, ⟨25, _⟩ => ⟨S1x32x8x64, .f32⟩
  | .local _ .vmem, ⟨0, _⟩ => ⟨S256x2048, .f32⟩
  | .local _ .vmem, ⟨1, _⟩ => ⟨S1x2048, .f32⟩
  | .local _ .vmem, ⟨2, _⟩ => ⟨S2048x1536, .bf16⟩
  | .local _ .vmem, ⟨3, _⟩ => ⟨S2048x1536, .bf16⟩
  | .local _ .vmem, ⟨4, _⟩ => ⟨S256x1536, .f32⟩
  | .local _ .vmem, ⟨5, _⟩ => ⟨S256x1536, .f32⟩
  | .local _ .vmem, ⟨6, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S256x2048 : Shape := ⟨2, ![256, 2048]⟩
abbrev S2048 : Shape := ⟨1, ![2048]⟩
abbrev S2048x7264 : Shape := ⟨2, ![2048, 7264]⟩
abbrev S_ : Shape := ⟨0, ![]⟩
abbrev S256 : Shape := ⟨1, ![256]⟩
abbrev S256x1 : Shape := ⟨2, ![256, 1]⟩
abbrev S1x2048 : Shape := ⟨2, ![1, 2048]⟩
abbrev S256x7264 : Shape := ⟨2, ![256, 7264]⟩
abbrev S256x512 : Shape := ⟨2, ![256, 512]⟩
abbrev S256x1024 : Shape := ⟨2, ![256, 1024]⟩
abbrev S256x16 : Shape := ⟨2, ![256, 16]⟩
abbrev S256x64 : Shape := ⟨2, ![256, 64]⟩
abbrev S256x416 : Shape := ⟨2, ![256, 416]⟩
abbrev S256x7680 : Shape := ⟨2, ![256, 7680]⟩
abbrev S1x32x8x8x128 : Shape := ⟨5, ![1, 32, 8, 8, 128]⟩
abbrev S1x32x8x64 : Shape := ⟨4, ![1, 32, 8, 64]⟩

abbrev nBuf : Space → Nat
  | .hbm => 37
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S2048x7264, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x2048, .f32⟩
  | .hbm, ⟨15, _⟩ => ⟨S256x2048, .f32⟩
  | .hbm, ⟨16, _⟩ => ⟨S1x2048, .f32⟩
  | .hbm, ⟨17, _⟩ => ⟨S256x2048, .f32⟩
  | .hbm, ⟨18, _⟩ => ⟨S256x2048, .f32⟩
  | .hbm, ⟨19, _⟩ => ⟨S256x7264, .f32⟩
  | .hbm, ⟨20, _⟩ => ⟨S256x512, .f32⟩
  | .hbm, ⟨21, _⟩ => ⟨S256x512, .f32⟩
  | .hbm, ⟨22, _⟩ => ⟨S256x1024, .f32⟩
  | .hbm, ⟨23, _⟩ => ⟨S256x1024, .f32⟩
  | .hbm, ⟨24, _⟩ => ⟨S256x16, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S256x16, .f32⟩
  | .hbm, ⟨30, _⟩ => ⟨S256x64, .f32⟩
  | .hbm, ⟨31, _⟩ => ⟨S_, .f32⟩
  | .hbm, ⟨32, _⟩ => ⟨S256x416, .f32⟩
  | .hbm, ⟨33, _⟩ => ⟨S256x7680, .f32⟩
  | .hbm, ⟨34, _⟩ => ⟨S1x32x8x8x128, .f32⟩
  | .hbm, ⟨35, _⟩ => ⟨S1x32x8x8x128, .f32⟩
  | .hbm, ⟨36, _⟩ => ⟨S1x32x8x64, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Kernel6.lean ====
abbrev S16384x1024 : Shape := ⟨2, ![16384, 1024]⟩
abbrev S32x16384x512 : Shape := ⟨3, ![32, 16384, 512]⟩
abbrev S256x1024 : Shape := ⟨2, ![256, 1024]⟩
abbrev S512x1024 : Shape := ⟨2, ![512, 1024]⟩
abbrev S1x256x512 : Shape := ⟨3, ![1, 256, 512]⟩
abbrev S8x256x1 : Shape := ⟨3, ![8, 256, 1]⟩
abbrev S256x512 : Shape := ⟨2, ![256, 512]⟩
abbrev S256x128 : Shape := ⟨2, ![256, 128]⟩
abbrev S512x128 : Shape := ⟨2, ![512, 128]⟩
abbrev S1x256x1 : Shape := ⟨3, ![1, 256, 1]⟩
abbrev S256x1 : Shape := ⟨2, ![256, 1]⟩
abbrev S256 : Shape := ⟨1, ![256]⟩

abbrev nBuf : Space → Nat
  | .hbm => 5
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S32x16384x512, .bf16⟩
  | .hbm, ⟨4, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x256x512, .bf16⟩
  | .local _ .vmem, ⟨7, _⟩ => ⟨S1x256x512, .bf16⟩
  | .local _ .vmem, ⟨8, _⟩ => ⟨S256x1024, .bf16⟩
  | .local _ .vmem, ⟨9, _⟩ => ⟨S256x1024, .bf16⟩
  | .local _ .vmem, ⟨10, _⟩ => ⟨S8x256x1, .f32⟩
  | .local _ .vmem, ⟨11, _⟩ => ⟨S8x256x1, .f32⟩
  | .local _ .vmem, ⟨12, _⟩ => ⟨S256x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 32], ![false, false]⟩

def k0_cond3 (i : grid0.Coords) : BitVec 1 :=
  let arg1 : BitVec 32 := BitVec.ofNat 32 (i 1).val
  let c31_i32 : BitVec 32 := 31#32
  let v10 : BitVec 1 := Scalar.cmpi .eq arg1 c31_i32
  let v11 : BitVec 32 := Scalar.extui v10
  let c0_i32_3 : BitVec 32 := 0#32
  let v12 : BitVec 1 := Scalar.cmpi .ne v11 c0_i32_3
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c256_i32_0 : BitVec 32 := 256#32
  let v1 : BitVec 32 := Scalar.addi v0 c256_i32_0
  let c1_i32 : BitVec 32 := 1#32
  let v2 : BitVec 32 := Scalar.subi v1 c1_i32
  let c512_i32 : BitVec 32 := 512#32
  let v3 : BitVec 32 := Scalar.divsi v2 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let v20 : BitVec 32 := Scalar.minsi arg1 v19
  let c0_i32_6 : BitVec 32 := 0#32
  let c0_i32_7 : BitVec 32 := 0#32
  ![v20.toNat, c0_i32_6.toNat]

def cc0_transform_2 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c256_i32_0 : BitVec 32 := 256#32
  let v1 : BitVec 32 := Scalar.addi v0 c256_i32_0
  let c1_i32 : BitVec 32 := 1#32
  let v2 : BitVec 32 := Scalar.subi v1 c1_i32
  let c512_i32 : BitVec 32 := 512#32
  let v3 : BitVec 32 := Scalar.divsi v2 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let v20 : BitVec 32 := Scalar.minsi arg1 v19
  let c0_i32_6 : BitVec 32 := 0#32
  let c0_i32_7 : BitVec 32 := 0#32
  ![v20.toNat, c0_i32_6.toNat]

def cc0_transform_3 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c256_i32_0 : BitVec 32 := 256#32
  let v1 : BitVec 32 := Scalar.addi v0 c256_i32_0
  let c1_i32 : BitVec 32 := 1#32
  let v2 : BitVec 32 := Scalar.subi v1 c1_i32
  let c512_i32 : BitVec 32 := 512#32
  let v3 : BitVec 32 := Scalar.divsi v2 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let v20 : BitVec 32 := Scalar.minsi arg1 v19
  let c0_i32_6 : BitVec 32 := 0#32
  let c0_i32_7 : BitVec 32 := 0#32
  ![v20.toNat, arg0.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference6Ideal.lean ====
abbrev S16384x1024 : Shape := ⟨2, ![16384, 1024]⟩
abbrev S32x16384x512 : Shape := ⟨3, ![32, 16384, 512]⟩
abbrev S16384x8x128 : Shape := ⟨3, ![16384, 8, 128]⟩
abbrev S16384x32x512 : Shape := ⟨3, ![16384, 32, 512]⟩
abbrev S16384x16384 : Shape := ⟨2, ![16384, 16384]⟩
abbrev S8x16384x16384 : Shape := ⟨3, ![8, 16384, 16384]⟩
abbrev S16384x8x16384 : Shape := ⟨3, ![16384, 8, 16384]⟩
abbrev S_ : Shape := ⟨0, ![]⟩
abbrev S16384x1x16384 : Shape := ⟨3, ![16384, 1, 16384]⟩
abbrev S16384x8 : Shape := ⟨2, ![16384, 8]⟩
abbrev S16384x8x1 : Shape := ⟨3, ![16384, 8, 1]⟩
abbrev S8x128x16384 : Shape := ⟨3, ![8, 128, 16384]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S32x16384x512, .bf16⟩
  | .hbm, ⟨4, _⟩ => ⟨S16384x1024, .f32⟩
  | .hbm, ⟨5, _⟩ => ⟨S16384x8x128, .f32⟩
  | .hbm, ⟨6, _⟩ => ⟨S16384x1024, .f32⟩
  | .hbm, ⟨7, _⟩ => ⟨S16384x8x128, .f32⟩
  | .hbm, ⟨8, _⟩ => ⟨S16384x1024, .f32⟩
  | .hbm, ⟨9, _⟩ => ⟨S16384x8x128, .f32⟩
  | .hbm, ⟨10, _⟩ => ⟨S32x16384x512, .f32⟩
  | .hbm, ⟨11, _⟩ => ⟨S16384x32x512, .f32⟩
  | .hbm, ⟨12, _⟩ => ⟨S16384x16384, .f32⟩
  | .hbm, ⟨13, _⟩ => ⟨S8x16384x16384, .f32⟩
  | .hbm, ⟨14, _⟩ => ⟨S16384x8x16384, .f32⟩
  | .hbm, ⟨15, _⟩ => ⟨S_, .f32⟩
  | .hbm, ⟨16, _⟩ => ⟨S16384x8x16384, .f32⟩
  | .hbm, ⟨17, _⟩ => ⟨S16384x8x16384, .f32⟩
  | .hbm, ⟨18, _⟩ => ⟨S16384x1x16384, .f32⟩
  | .hbm, ⟨19, _⟩ => ⟨S16384x8x16384, .f32⟩
  | .hbm, ⟨20, _⟩ => ⟨S16384x8x16384, .f32⟩
  | .hbm, ⟨21, _⟩ => ⟨S_, .f32⟩
  | .hbm, ⟨22, _⟩ => ⟨S16384x8, .f32⟩
  | .hbm, ⟨23, _⟩ => ⟨S_, .f32⟩
  | .hbm, ⟨24, _⟩ => ⟨S16384x8, .f32⟩
  | .hbm, ⟨25, _⟩ => ⟨S16384x8, .f32⟩
  | .hbm, ⟨26, _⟩ => ⟨S16384x8x1, .f32⟩
  | .hbm, ⟨27, _⟩ => ⟨S16384x8x16384, .f32⟩
  | .hbm, ⟨28, _⟩ => ⟨S16384x8x16384, .f32⟩
  | .hbm, ⟨29, _⟩ => ⟨S16384x8x16384, .f32⟩
  | .hbm, ⟨30, _⟩ => ⟨S_, .f32⟩
  | .hbm, ⟨31, _⟩ => ⟨S16384x8, .f32⟩
  | .hbm, ⟨32, _⟩ => ⟨S16384x8x1, .f32⟩
  | .hbm, ⟨33, _⟩ => ⟨S16384x8x16384, .f32⟩
  | .hbm, ⟨34, _⟩ => ⟨S16384x8x16384, .f32⟩
  | .hbm, ⟨35, _⟩ => ⟨S8x128x16384, .f32⟩
  | .hbm, ⟨36, _⟩ => ⟨S16384x8x128, .f32⟩
  | .hbm, ⟨37, _⟩ => ⟨S16384x1024, .f32⟩
  | .hbm, ⟨38, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Proof.Pack.lean ====
/-
  The order in which the projected columns are stored: the reference's columns
  `gq gk gv gg ga aq ak av iq iw ik` are stored as `gq gk gv gg aq ak av iq ik ga iw` followed by zeros up to 7680.
-/
module

public import Mathlib.Data.EReal.Operations
public import Mathlib.Algebra.BigOperators.Fin

@[expose] public section

namespace Cert.Proj

/-- Column `j` of the stored order, of a row `f` in the reference's order. -/
noncomputable def pack (f : Fin 7264 → EReal) (j : Fin 7680) : EReal :=
  if h : j.val < 3072 then f ⟨j.val, by omega⟩
  else if h : j.val < 7168 then f ⟨j.val + 16, by omega⟩
  else if h : j.val < 7232 then f ⟨j.val + 32, by omega⟩
  else if h : j.val < 7248 then f ⟨j.val - 4160, by omega⟩
  else if h : j.val < 7264 then f ⟨j.val - 64, by omega⟩
  else 0

theorem pack_a (f : Fin 7264 → EReal) (j : Fin 7680) (h : j.val < 3072) : pack f j = f ⟨j.val, by omega⟩ := dif_pos h
theorem pack_b (f : Fin 7264 → EReal) (j : Fin 7680) (h : 3072 ≤ j.val ∧ j.val < 7168) :
    pack f j = f ⟨j.val + 16, by omega⟩ := by
  unfold pack; rw [dif_neg (by omega), dif_pos h.2]
theorem pack_c (f : Fin 7264 → EReal) (j : Fin 7680) (h : 7168 ≤ j.val ∧ j.val < 7232) :
    pack f j = f ⟨j.val + 32, by omega⟩ := by
  unfold pack; rw [dif_neg (by omega), dif_neg (by omega), dif_pos h.2]
theorem pack_d (f : Fin 7264 → EReal) (j : Fin 7680) (h : 7232 ≤ j.val ∧ j.val < 7248) :
    pack f j = f ⟨j.val - 4160, by omega⟩ := by
  unfold pack; rw [dif_neg (by omega), dif_neg (by omega), dif_neg (by omega), dif_pos h.2]
theorem pack_e (f : Fin 7264 → EReal) (j : Fin 7680) (h : 7248 ≤ j.val ∧ j.val < 7264) :
    pack f j = f ⟨j.val - 64, by omega⟩ := by
  unfold pack; rw [dif_neg (by omega), dif_neg (by omega), dif_neg (by omega), dif_neg (by omega), dif_pos h.2]
theorem pack_z (f : Fin 7264 → EReal) (j : Fin 7680) (h : 7264 ≤ j.val) : pack f j = 0 := by
  unfold pack; rw [dif_neg (by omega), dif_neg (by omega), dif_neg (by omega), dif_neg (by omega), dif_neg (by omega)]

/-- The stored order, read piece by piece along the twelve pieces that are joined. -/
theorem pack_ladder (f : Fin 7264 → EReal) (j : Fin 7680) :
    (if h : j.val < 512 then f ⟨j.val, by omega⟩
    else if h1 : j.val - 512 < 512 then f ⟨512 + (j.val - 512), by omega⟩
    else if h2 : j.val - 512 - 512 < 1024 then f ⟨1024 + (j.val - 512 - 512), by omega⟩
    else if h3 : j.val - 512 - 512 - 1024 < 1024 then f ⟨2048 + (j.val - 512 - 512 - 1024), by omega⟩
    else if h4 : j.val - 512 - 512 - 1024 - 1024 < 1024 then f ⟨3088 + (j.val - 512 - 512 - 1024 - 1024), by omega⟩
    else if h5 : j.val - 512 - 512 - 1024 - 1024 - 1024 < 1024 then
      f ⟨4112 + (j.val - 512 - 512 - 1024 - 1024 - 1024), by omega⟩
    else if h6 : j.val - 512 - 512 - 1024 - 1024 - 1024 - 1024 < 1024 then
      f ⟨5136 + (j.val - 512 - 512 - 1024 - 1024 - 1024 - 1024), by omega⟩
    else if h7 : j.val - 512 - 512 - 1024 - 1024 - 1024 - 1024 - 1024 < 1024 then
      f ⟨6160 + (j.val - 512 - 512 - 1024 - 1024 - 1024 - 1024 - 1024), by omega⟩
    else if h8 : j.val - 512 - 512 - 1024 - 1024 - 1024 - 1024 - 1024 - 1024 < 64 then
      f ⟨7200 + (j.val - 512 - 512 - 1024 - 1024 - 1024 - 1024 - 1024 - 1024), by omega⟩
    else if h9 : j.val - 512 - 512 - 1024 - 1024 - 1024 - 1024 - 1024 - 1024 - 64 < 16 then
      f ⟨3072 + (j.val - 512 - 512 - 1024 - 1024 - 1024 - 1024 - 1024 - 1024 - 64), by omega⟩
    else if h10 : j.val - 512 - 512 - 1024 - 1024 - 1024 - 1024 - 1024 - 1024 - 64 - 16 < 16 then
      f ⟨7184 + (j.val - 512 - 512 - 1024 - 1024 - 1024 - 1024 - 1024 - 1024 - 64 - 16), by omega⟩
    else 0) = pack f j := by
  have hf : ∀ (a b : ℕ) (ha : a < 7264) (hb : b < 7264), a = b → f ⟨a, ha⟩ = f ⟨b, hb⟩ := by
    intro a b ha hb e; subst e; rfl
  by_cases h : j.val < 512
  · rw [dif_pos h, pack_a f j (by omega)]
  rw [dif_neg h]
  by_cases h1 : j.val - 512 < 512
  · rw [dif_pos h1, pack_a f j (by omega)]; exact hf _ _ _ _ (by omega)
  rw [dif_neg h1]
  by_cases h2 : j.val - 512 - 512 < 1024
  · rw [dif_pos h2, pack_a f j (by omega)]; exact hf _ _ _ _ (by omega)
  rw [dif_neg h2]
  by_cases h3 : j.val - 512 - 512 - 1024 < 1024
  · rw [dif_pos h3, pack_a f j (by omega)]; exact hf _ _ _ _ (by omega)
  rw [dif_neg h3]
  by_cases h4 : j.val - 512 - 512 - 1024 - 1024 < 1024
  · rw [dif_pos h4, pack_b f j (by omega)]; exact hf _ _ _ _ (by omega)
  rw [dif_neg h4]
  by_cases h5 : j.val - 512 - 512 - 1024 - 1024 - 1024 < 1024
  · rw [dif_pos h5, pack_b f j (by omega)]; exact hf _ _ _ _ (by omega)
  rw [dif_neg h5]
  by_cases h6 : j.val - 512 - 512 - 1024 - 1024 - 1024 - 1024 < 1024
  · rw [dif_pos h6, pack_b f j (by omega)]; exact hf _ _ _ _ (by omega)
  rw [dif_neg h6]
  by_cases h7 : j.val - 512 - 512 - 1024 - 1024 - 1024 - 1024 - 1024 < 1024
  · rw [dif_pos h7, pack_b f j (by omega)]; exact hf _ _ _ _ (by omega)
  rw [dif_neg h7]
  by_cases h8 : j.val - 512 - 512 - 1024 - 1024 - 1024 - 1024 - 1024 - 1024 < 64
  · rw [dif_pos h8, pack_c f j (by omega)]; exact hf _ _ _ _ (by omega)
  rw [dif_neg h8]
  by_cases h9 : j.val - 512 - 512 - 1024 - 1024 - 1024 - 1024 - 1024 - 1024 - 64 < 16
  · rw [dif_pos h9, pack_d f j (by omega)]; exact hf _ _ _ _ (by omega)
  rw [dif_neg h9]
  by_cases h10 : j.val - 512 - 512 - 1024 - 1024 - 1024 - 1024 - 1024 - 1024 - 64 - 16 < 16
  · rw [dif_pos h10, pack_e f j (by omega)]; exact hf _ _ _ _ (by omega)
  rw [dif_neg h10]
  rw [pack_z f j (by omega)]

/-- Storing the columns in another order commutes with a product against a fixed row `a`. -/
theorem pack_sum {n : ℕ} (a : Fin n → EReal) (f : Fin n → Fin 7264 → EReal) (j : Fin 7680) :
    pack (fun q => ∑ k, a k * f k q) j = ∑ k, a k * pack (f k) j := by
  unfold pack
  split_ifs <;> simp

end Cert.Proj
-- ==== Proof.Proj.lean ====
/-
  The projections of the layer's input: normalise the rows, multiply by the input matrix. The kernel reorders the matrix's
  columns before the product and computes tile by tile; the reference multiplies by the matrix as it is. The call's own
  result is the product in the stored column order, and three of the layer's results are slices of it.
-/
module

public import proofs.«01_k».proof.Defs
public import proofs.«01_k».proof.Proof.Gen.Kernel3Ideal.Frame
public import proofs.«01_k».proof.Proof.Gen.Reference3Ideal.Read
public import proofs.«01_k».proof.Proof.Pack
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Proj

open Cert.Kernel3Ideal Cert.Kernel3Ideal.Gen

variable (m : (ℓ : Loc nD τ sig) → Buf (Elt Ideal) ℓ)

/-- Where each window's block sits at grid point `t` = 5 * row tile + column tile. -/
theorem idx : ∀ t : Fin cfg0.N, win0_0.index t = ![t.val / 5, 0] ∧ win0_1.index t = ![0, 0]
    ∧ win0_2.index t = ![0, t.val % 5] ∧ win0_3.index t = ![t.val / 5, t.val % 5] :=
  (by decide +kernel : ∀ t : Fin grid0.N, _)

/-- The normalised rows a point multiplies: those its row tile's first point stored. -/
theorem rows (c : Dev nD) : ∀ (n : ℕ) (hn : n < cfg0.N),
    (outsAt0 m c n hn).2 = k0_pay1 (F := Ideal) (iblk m c 0 ⟨n, hn⟩) (iblk m c 1 ⟨n, hn⟩) := by
  intro n
  induction n with
  | zero =>
    intro hn
    rw [outsAt0_A m c ⟨0, hn⟩ (by simp)]
    frame_out
  | succ n ih =>
    intro hn
    have hN : n + 1 < 160 := lt_of_lt_of_eq hn (show cfg0.N = 160 from N_0)
    by_cases h0 : (n + 1) % 5 = 0
    · rw [outsAt0_A m c ⟨n + 1, hn⟩ h0]
      frame_out
    · have e0 : iblk m c 0 ⟨n, Nat.lt_of_succ_lt hn⟩ = iblk m c 0 ⟨n + 1, hn⟩ := by
        blk_ext! [iblk, V, idx ⟨n, Nat.lt_of_succ_lt hn⟩, idx ⟨n + 1, hn⟩]
      have e1 : iblk m c 1 ⟨n, Nat.lt_of_succ_lt hn⟩ = iblk m c 1 ⟨n + 1, hn⟩ := by
        blk_ext! [iblk, V, idx ⟨n, Nat.lt_of_succ_lt hn⟩, idx ⟨n + 1, hn⟩]
      have prev : ∀ (k : ℕ) (hk : k < cfg0.N), k = n → (outsAt0 m c k hk).2
          = k0_pay1 (F := Ideal) (iblk m c 0 ⟨n, Nat.lt_of_succ_lt hn⟩) (iblk m c 1 ⟨n, Nat.lt_of_succ_lt hn⟩) := by
        intro k hk e; subst e; exact ih _
      rw [outsAt0_B m c ⟨n + 1, hn⟩ h0]
      dsimp only [sout0_B_0]
      exact (prev _ _ rfl).trans (by rw [e0, e1])

/-- What a point writes back: the normalised rows times the point's columns of the reordered matrix. -/
theorem written (c : Dev nD) (t : Fin cfg0.N) : (outsAt0 m c t.val t.isLt).1
    = k0_pay2 (F := Ideal) (k0_pay1 (F := Ideal) (iblk m c 0 t) (iblk m c 1 t)) (iblk m c 2 t) := by
  by_cases h0 : t.val % 5 = 0
  · rw [outsAt0_A m c t h0]; frame_out
  · have hr := rows m c t.val t.isLt
    have hp : (outsAt0 m c (t.val - 1) (Nat.lt_of_le_of_lt (Nat.sub_le _ _) t.isLt)).2
        = k0_pay1 (F := Ideal) (iblk m c 0 t) (iblk m c 1 t) := by
      rw [outsAt0_B m c t h0] at hr; dsimp only [sout0_B_0] at hr; exact hr
    rw [outsAt0_B m c t h0]; frame_out; rw [read_unread_whole, hp]

/-- A buffer's contents when the call starts, through the host operations before it. -/
theorem entry (c : Dev nD) (b : Ref sig .tc) : V m c b = StableHlo.after hostOps0 (fun b => m (c, b)) (Proc.tc.devRef b) := by
  unfold V V0
  rw [List.flatten_singleton]

/-- The scale row the call reads is the scale itself. -/
theorem scale_eq (c : Dev nD) (y : S1x2048.Idx) : V m c main_v14 y = m ((c : Thread nD τ).loc main_arg1) (ix1 (y 1)) := by
  rw [entry]
  entry_read
  pointwise

open Cert.Reference3Ideal.Read in
/-- The rows a point multiplies are the reference's normalised rows. -/
theorem rows_eq (c : Dev nD) (t : Fin cfg0.N) (y : S512x2048.Idx) :
    k0_pay1 (F := Ideal) (iblk m c 0 t) (iblk m c 1 t) y
      = val_main_v12 (F := Ideal) (m ((c : Thread nD τ).loc main_arg0)) (m ((c : Thread nD τ).loc main_arg1))
          (((cfg0.win 0).blk t).view.emb y) := by
  pointwise [k0_pay1, val_main_v12, val_main_v11, val_main_v10, val_main_v9, val_main_v8, val_main_v7, val_main_v6,
    val_main_v5, val_main_v4, val_main_v3, val_main_v2, val_main_v1, val_main_v0, val_main_cst, val_main_cst_0, val_main_cst_1]
  blk_point [iblk, V, idx t]
  all_goals (rw [scale_eq]; blk_ext [idx t])

open Cert.Reference3Ideal.Read in
/-- The reference's product in the stored column order. -/
theorem ref_pack (x : FVec Ideal S16384x2048 .f32) (g : FVec Ideal S2048 .f32) (w : FVec Ideal S2048x7264 .f32)
    (r : Fin 16384) (j : Fin 7680) : val_main_v26 (F := Ideal) x g w (ix2 r j)
      = pack (fun q => ∑ k : Fin 2048, val_main_v12 (F := Ideal) x g (ix2 r k) * w (ix2 k q)) j := by
  have e : ∀ q : Fin 7264, ∑ k : Fin 2048, val_main_v12 (F := Ideal) x g (ix2 r k) * w (ix2 k q)
      = val_main_v13 (F := Ideal) x g w (ix2 r q) := by intro q; pointwise [val_main_v13]
  simp only [e]
  pointwise [val_main_v26, val_main_v25, val_main_v24, val_main_v23, val_main_v22, val_main_v21, val_main_v20,
    val_main_v19, val_main_v18, val_main_v17, val_main_v16, val_main_v15, val_main_v14, val_main_cst_2]
  exact pack_ladder (fun q => val_main_v13 (F := Ideal) x g w (ix2 r q)) j

/-- The matrix the call multiplies by, from the input matrix `w`: its columns' pieces joined in the stored order. -/
def mat (w : FVec Ideal S2048x7264 .f32) : FVec Ideal S2048x7680 .bf16 := truncf .bf16 (concatenate S2048x7680 1 [
    ⟨S2048x512, (extractStridedSlice S2048x512 ![0, 0] w slices_S2048x7264_S2048x512_0_0 : FVec Ideal S2048x512 .f32)⟩,
    ⟨S2048x512, (extractStridedSlice S2048x512 ![0, 512] w slices_S2048x7264_S2048x512_0_512 : FVec Ideal S2048x512 .f32)⟩,
    ⟨S2048x1024, (extractStridedSlice S2048x1024 ![0, 1024] w slices_S2048x7264_S2048x1024_0_1024 : FVec Ideal S2048x1024 .f32)⟩,
    ⟨S2048x1024, (extractStridedSlice S2048x1024 ![0, 2048] w slices_S2048x7264_S2048x1024_0_2048 : FVec Ideal S2048x1024 .f32)⟩,
    ⟨S2048x1024, (extractStridedSlice S2048x1024 ![0, 3088] w slices_S2048x7264_S2048x1024_0_3088 : FVec Ideal S2048x1024 .f32)⟩,
    ⟨S2048x1024, (extractStridedSlice S2048x1024 ![0, 4112] w slices_S2048x7264_S2048x1024_0_4112 : FVec Ideal S2048x1024 .f32)⟩,
    ⟨S2048x1024, (extractStridedSlice S2048x1024 ![0, 5136] w slices_S2048x7264_S2048x1024_0_5136 : FVec Ideal S2048x1024 .f32)⟩,
    ⟨S2048x1024, (extractStridedSlice S2048x1024 ![0, 6160] w slices_S2048x7264_S2048x1024_0_6160 : FVec Ideal S2048x1024 .f32)⟩,
    ⟨S2048x64, (extractStridedSlice S2048x64 ![0, 7200] w slices_S2048x7264_S2048x64_0_7200 : FVec Ideal S2048x64 .f32)⟩,
    ⟨S2048x16, (extractStridedSlice S2048x16 ![0, 3072] w slices_S2048x7264_S2048x16_0_3072 : FVec Ideal S2048x16 .f32)⟩,
    ⟨S2048x16, (extractStridedSlice S2048x16 ![0, 7184] w slices_S2048x7264_S2048x16_0_7184 : FVec Ideal S2048x16 .f32)⟩,
    ⟨S2048x416, (broadcastInDim S2048x416 ![] bcast_S_S2048x416 (constant (F := Ideal) S_ .f32 0x00000000#32) : FVec Ideal S2048x416 .f32)⟩]
    concatenates_S2048x512_S2048x512_S2048x1024_S2048x1024_S2048x1024_S2048x1024_S2048x1024_S2048x1024_S2048x64_S2048x16_S2048x16_S2048x416_S2048x7680_d1
      : FVec Ideal S2048x7680 .f32) bitsLt_bf16_f32

theorem mat_apply (w : FVec Ideal S2048x7264 .f32) (k : Fin 2048) (j : Fin 7680) :
    mat w (ix2 k j) = pack (fun q => w (ix2 k q)) j := by
  pointwise [mat]
  exact pack_ladder (fun q => w (ix2 k q)) j

theorem mat_entry (c : Dev nD) : V m c main_v13 = mat (m ((c : Thread nD τ).loc main_arg2)) := by
  rw [entry]
  after_results
  rfl

theorem mat_pack (c : Dev nD) (k : Fin 2048) (j : Fin 7680) : V m c main_v13 (ix2 k j)
      = pack (fun q => m ((c : Thread nD τ).loc main_arg2) (ix2 k q)) j := by
  rw [mat_entry]
  exact mat_apply _ k j

open Cert.Reference3Ideal.Read in
/-- A point's block of the product is the reference's product there: row `R` and column `J` of the result. -/
theorem point' (c : Dev nD) (t : Fin cfg0.N) (r : Fin 512) (j : Fin 1536) (R : Fin 16384) (J : Fin 7680)
    (hR : R.val = t.val / 5 * 512 + r.val) (hJ : J.val = t.val % 5 * 1536 + j.val) :
    k0_pay2 (F := Ideal) (k0_pay1 (F := Ideal) (iblk m c 0 t) (iblk m c 1 t)) (iblk m c 2 t) (ix2 r j)
      = val_main_v26 (F := Ideal) (m ((c : Thread nD τ).loc main_arg0)) (m ((c : Thread nD τ).loc main_arg1))
          (m ((c : Thread nD τ).loc main_arg2)) (ix2 R J) := by
  have hw : ∀ k : Fin 2048, iblk m c 2 t (ix2 k j)
      = pack (fun q => m ((c : Thread nD τ).loc main_arg2) (ix2 k q)) J := by
    intro k
    rw [← mat_pack m c]
    blk_simp [iblk]
    congr 1
    blk_ext [idx t]
  have hr : ∀ k : Fin 2048, k0_pay1 (F := Ideal) (iblk m c 0 t) (iblk m c 1 t) (ix2 r k)
      = val_main_v12 (F := Ideal) (m ((c : Thread nD τ).loc main_arg0)) (m ((c : Thread nD τ).loc main_arg1)) (ix2 R k) := by
    intro k
    rw [rows_eq m c t]
    congr 1
    blk_ext [idx t]
  have hL : k0_pay2 (F := Ideal) (k0_pay1 (F := Ideal) (iblk m c 0 t) (iblk m c 1 t)) (iblk m c 2 t) (ix2 r j)
      = ∑ k : Fin 2048, k0_pay1 (F := Ideal) (iblk m c 0 t) (iblk m c 1 t) (ix2 r k) * iblk m c 2 t (ix2 k j) := by
    pointwise [k0_pay2]
  rw [hL, ref_pack, pack_sum]
  exact Finset.sum_congr rfl fun k _ => by rw [hw, hr]

open Cert.Reference3Ideal.Read in
theorem point (c : Dev nD) (t : Fin cfg0.N) (y : S512x1536.Idx) :
    k0_pay2 (F := Ideal) (k0_pay1 (F := Ideal) (iblk m c 0 t) (iblk m c 1 t)) (iblk m c 2 t) y
      = val_main_v26 (F := Ideal) (m ((c : Thread nD τ).loc main_arg0)) (m ((c : Thread nD τ).loc main_arg1))
          (m ((c : Thread nD τ).loc main_arg2)) (((cfg0.win 3).blk t).view.emb y) := by
  have hN : t.val < 160 := lt_of_lt_of_eq t.isLt (show cfg0.N = 160 from N_0)
  idx_vars y
  rw [point' m c t _ _ ⟨t.val / 5 * 512 + y0.val, by omega⟩ ⟨t.val % 5 * 1536 + y1.val, by omega⟩ rfl rfl]
  congr 1
  blk_ext [idx t]

open Cert.Reference3Ideal.Read in
/-- The call's result is the reference's product in the stored column order. -/
theorem final (c : Dev nD) : (dats m 0 c).arrAt 3 cfg0.N
    = val_main_v26 (F := Ideal) (m ((c : Thread nD τ).loc main_arg0)) (m ((c : Thread nD τ).loc main_arg1))
          (m ((c : Thread nD τ).loc main_arg2)) := by
  refine (dats m 0 c).arrAt_eq_of_covers 3 _ (by decide +kernel) fun t hf y => ?_
  blk_simp
  rw [after0_3, written]
  exact point m c t y

/-- What the host operations after the call leave in a buffer, from the call's result. -/
theorem tail (c : Dev nD) (b : Ref sig .tc) : Pipeline.afterTail₀ cfgs (dats m) 0 (V0 m) [hostOps1] c b
    = StableHlo.after hostOps1 (Pipeline.withArrays spec0 c (V0 m c) fun w => (dats m 0 c).arrAt w cfg0.N) (Proc.tc.devRef b) := by
  unfold Pipeline.afterTail₀
  rw [List.flatten_singleton]

/-- After the call its result's buffer holds its result. -/
theorem exit (c : Dev nD) : Pipeline.withArrays spec0 c (V0 m c) (fun w => (dats m 0 c).arrAt w cfg0.N)
    (Proc.tc.devRef main_v15) = (dats m 0 c).arrAt 3 cfg0.N :=
  Pipeline.withArrays_arr spec0 (by decide) c _ _ 3

theorem tail18 (c : Dev nD) : Pipeline.afterTail₀ cfgs (dats m) 0 (V0 m) [hostOps1] c main_v18
    = shapeCast S1x1x16384x8x128 (extractStridedSlice S16384x1024 ![0, 4096] ((dats m 0 c).arrAt 3 cfg0.N)
        slices_S16384x7680_S16384x1024_0_4096) shapeCasts_S16384x1024_S1x1x16384x8x128 := by
  rw [tail, ← exit]
  after_results
  rfl

theorem tail19 (c : Dev nD) : Pipeline.afterTail₀ cfgs (dats m) 0 (V0 m) [hostOps1] c main_v19
    = shapeCast S1x1x16384x8x128 (extractStridedSlice S16384x1024 ![0, 5120] ((dats m 0 c).arrAt 3 cfg0.N)
        slices_S16384x7680_S16384x1024_0_5120) shapeCasts_S16384x1024_S1x1x16384x8x128 := by
  rw [tail, ← exit]
  after_results
  rfl

theorem tail21 (c : Dev nD) : Pipeline.afterTail₀ cfgs (dats m) 0 (V0 m) [hostOps1] c main_v21
    = shapeCast S1x1x16384x64 (extractStridedSlice S16384x64 ![0, 7168] ((dats m 0 c).arrAt 3 cfg0.N)
        slices_S16384x7680_S16384x64_0_7168) shapeCasts_S16384x64_S1x1x16384x64 := by
  rw [tail, ← exit]
  after_results
  rfl

section
variable (x : FVec Ideal S16384x2048 .f32) (g : FVec Ideal S2048 .f32) (w : FVec Ideal S2048x7264 .f32)
open Cert.Reference3Ideal.Read

/-- Sixteen columns further in the reference's order: the columns stored at 3072 to 7168. -/
theorem ref_b (r : Fin 16384) (j : Fin 7680) (q : Fin 7264) (h : 3072 ≤ j.val ∧ j.val < 7168) (hq : q.val = j.val + 16) :
    val_main_v26 (F := Ideal) x g w (ix2 r j) = val_main_v13 (F := Ideal) x g w (ix2 r q) := by
  have hq' : (⟨j.val + 16, by omega⟩ : Fin 7264) = q := Fin.ext hq.symm
  rw [ref_pack, pack_b _ _ h, hq']
  pointwise [val_main_v13]

/-- The columns stored at 7168 to 7232. -/
theorem ref_c (r : Fin 16384) (j : Fin 7680) (q : Fin 7264) (h : 7168 ≤ j.val ∧ j.val < 7232) (hq : q.val = j.val + 32) :
    val_main_v26 (F := Ideal) x g w (ix2 r j) = val_main_v13 (F := Ideal) x g w (ix2 r q) := by
  have hq' : (⟨j.val + 32, by omega⟩ : Fin 7264) = q := Fin.ext hq.symm
  rw [ref_pack, pack_c _ _ h, hq']
  pointwise [val_main_v13]

/-- The keys: the slice the kernel takes of the stored product is the reference's slice. -/
theorem keys : val_main_v27 (F := Ideal) x g w = shapeCast S1x1x16384x8x128 (extractStridedSlice S16384x1024 ![0, 4096]
    (val_main_v26 (F := Ideal) x g w) slices_S16384x7680_S16384x1024_0_4096) shapeCasts_S16384x1024_S1x1x16384x8x128 := by
  unfold val_main_v27 val_main_v20
  congr 1
  funext y
  idx_vars y
  have e := ref_b x g w y0 ⟨4096 + y1.val, by omega⟩ ⟨4112 + y1.val, by omega⟩ (by dsimp only; omega) (by dsimp only; omega)
  pointwise
  exact e.symm

/-- The values. -/
theorem values : val_main_v28 (F := Ideal) x g w = shapeCast S1x1x16384x8x128 (extractStridedSlice S16384x1024 ![0, 5120]
    (val_main_v26 (F := Ideal) x g w) slices_S16384x7680_S16384x1024_0_5120) shapeCasts_S16384x1024_S1x1x16384x8x128 := by
  unfold val_main_v28 val_main_v21
  congr 1
  funext y
  idx_vars y
  have e := ref_b x g w y0 ⟨5120 + y1.val, by omega⟩ ⟨5136 + y1.val, by omega⟩ (by dsimp only; omega) (by dsimp only; omega)
  pointwise
  exact e.symm

/-- The indexer's keys. -/
theorem index_keys : val_main_v29 (F := Ideal) x g w = shapeCast S1x1x16384x64 (extractStridedSlice S16384x64 ![0, 7168]
    (val_main_v26 (F := Ideal) x g w) slices_S16384x7680_S16384x64_0_7168) shapeCasts_S16384x64_S1x1x16384x64 := by
  unfold val_main_v29 val_main_v24
  congr 1
  funext y
  idx_vars y
  have e := ref_c x g w y0 ⟨7168 + y1.val, by omega⟩ ⟨7200 + y1.val, by omega⟩ (by dsimp only; omega) (by dsimp only; omega)
  pointwise
  exact e.symm
end

/-- The kernel's results are the reference's. -/
theorem algebraic : Cert.algebraic_Kernel3Ideal_Reference3Ideal := by
  pair_intro
  · run_from Cert.Kernel3Ideal.Gen.run_main m g
    · exact W_main_arg1 m (dats m) c
    · exact W_main_arg2 m (dats m) c
  · run_from Cert.Reference3Ideal.Value.run m' g'
    all_goals obtain ⟨h0, h1, h2⟩ := hagree c
    · rw [Cert.Reference3Ideal.Read.val_main_v26_eq, h0, h1, h2]
      exact (final m c).symm
    · rw [tail18, final]
      exact (Cert.Reference3Ideal.Read.val_main_v27_eq _ _ _).trans (keys _ _ _)
    · rw [tail19, final]
      exact (Cert.Reference3Ideal.Read.val_main_v28_eq _ _ _).trans (values _ _ _)
    · rw [tail21, final]
      exact (Cert.Reference3Ideal.Read.val_main_v29_eq _ _ _).trans (index_keys _ _ _)

end Cert.Proj

end
-- ==== Proof.SampleProj.lean ====
/-
  The projections of the sample's input: 32 sequences of 8 tokens, one tile of rows, the reordered matrix of the prompt's
  call. The call's own result is the product in the stored column order, and three of the layer's results are slices of it.
-/
module

public import proofs.«01_k».proof.Defs
public import proofs.«01_k».proof.Proof.Gen.Kernel5Ideal.Frame
public import proofs.«01_k».proof.Proof.Gen.Reference5Ideal.Read
public import proofs.«01_k».proof.Proof.Proj
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SampleProj

open Cert.Kernel5Ideal Cert.Kernel5Ideal.Gen
open Cert.Proj (pack pack_b pack_c pack_ladder pack_sum mat mat_apply)

variable (m : (ℓ : Loc nD τ sig) → Buf (Elt Ideal) ℓ)

/-- Where each window's block sits at grid point `t` = 5 * row tile + column tile. -/
theorem idx : ∀ t : Fin cfg0.N, win0_0.index t = ![t.val / 5, 0] ∧ win0_1.index t = ![0, 0]
    ∧ win0_2.index t = ![0, t.val % 5] ∧ win0_3.index t = ![t.val / 5, t.val % 5] :=
  (by decide +kernel : ∀ t : Fin grid0.N, _)

/-- The normalised rows a point multiplies: those its row tile's first point stored. -/
theorem rows (c : Dev nD) : ∀ (n : ℕ) (hn : n < cfg0.N),
    (outsAt0 m c n hn).2 = k0_pay1 (F := Ideal) (iblk m c 0 ⟨n, hn⟩) (iblk m c 1 ⟨n, hn⟩) := by
  intro n
  induction n with
  | zero =>
    intro hn
    rw [outsAt0_A m c ⟨0, hn⟩ (by simp)]
    frame_out
  | succ n ih =>
    intro hn
    have hN : n + 1 < 5 := lt_of_lt_of_eq hn (show cfg0.N = 5 from N_0)
    by_cases h0 : (n + 1) % 5 = 0
    · rw [outsAt0_A m c ⟨n + 1, hn⟩ h0]
      frame_out
    · have e0 : iblk m c 0 ⟨n, Nat.lt_of_succ_lt hn⟩ = iblk m c 0 ⟨n + 1, hn⟩ := by
        blk_ext! [iblk, V, idx ⟨n, Nat.lt_of_succ_lt hn⟩, idx ⟨n + 1, hn⟩]
      have e1 : iblk m c 1 ⟨n, Nat.lt_of_succ_lt hn⟩ = iblk m c 1 ⟨n + 1, hn⟩ := by
        blk_ext! [iblk, V, idx ⟨n, Nat.lt_of_succ_lt hn⟩, idx ⟨n + 1, hn⟩]
      have prev : ∀ (k : ℕ) (hk : k < cfg0.N), k = n → (outsAt0 m c k hk).2
          = k0_pay1 (F := Ideal) (iblk m c 0 ⟨n, Nat.lt_of_succ_lt hn⟩) (iblk m c 1 ⟨n, Nat.lt_of_succ_lt hn⟩) := by
        intro k hk e; subst e; exact ih _
      rw [outsAt0_B m c ⟨n + 1, hn⟩ h0]
      dsimp only [sout0_B_0]
      exact (prev _ _ rfl).trans (by rw [e0, e1])

/-- What a point writes back: the normalised rows times the point's columns of the reordered matrix. -/
theorem written (c : Dev nD) (t : Fin cfg0.N) : (outsAt0 m c t.val t.isLt).1
    = k0_pay2 (F := Ideal) (k0_pay1 (F := Ideal) (iblk m c 0 t) (iblk m c 1 t)) (iblk m c 2 t) := by
  by_cases h0 : t.val % 5 = 0
  · rw [outsAt0_A m c t h0]; frame_out
  · have hr := rows m c t.val t.isLt
    have hp : (outsAt0 m c (t.val - 1) (Nat.lt_of_le_of_lt (Nat.sub_le _ _) t.isLt)).2
        = k0_pay1 (F := Ideal) (iblk m c 0 t) (iblk m c 1 t) := by
      rw [outsAt0_B m c t h0] at hr; dsimp only [sout0_B_0] at hr; exact hr
    rw [outsAt0_B m c t h0]; frame_out; rw [read_unread_whole, hp]

/-- A buffer's contents when the call starts, through the host operations before it. -/
theorem entry (c : Dev nD) (b : Ref sig .tc) : V m c b = StableHlo.after hostOps0 (fun b => m (c, b)) (Proc.tc.devRef b) := by
  unfold V V0
  rw [List.flatten_singleton]

/-- The scale row the call reads is the scale itself. -/
theorem scale_eq (c : Dev nD) (y : S1x2048.Idx) : V m c main_v14 y = m ((c : Thread nD τ).loc main_arg1) (ix1 (y 1)) := by
  rw [entry]
  entry_read
  pointwise

open Cert.Reference5Ideal.Read in
/-- The rows a point multiplies are the reference's normalised rows. -/
theorem rows_eq (c : Dev nD) (t : Fin cfg0.N) (y : S256x2048.Idx) :
    k0_pay1 (F := Ideal) (iblk m c 0 t) (iblk m c 1 t) y
      = val_main_v12 (F := Ideal) (m ((c : Thread nD τ).loc main_arg0)) (m ((c : Thread nD τ).loc main_arg1))
          (((cfg0.win 0).blk t).view.emb y) := by
  pointwise [k0_pay1, val_main_v12, val_main_v11, val_main_v10, val_main_v9, val_main_v8, val_main_v7, val_main_v6,
    val_main_v5, val_main_v4, val_main_v3, val_main_v2, val_main_v1, val_main_v0, val_main_cst, val_main_cst_0, val_main_cst_1]
  blk_point [iblk, V, idx t]
  all_goals (rw [scale_eq]; blk_ext [idx t])

open Cert.Reference5Ideal.Read in
/-- The reference's product in the stored column order. -/
theorem ref_pack (x : FVec Ideal S256x2048 .f32) (g : FVec Ideal S2048 .f32) (w : FVec Ideal S2048x7264 .f32)
    (r : Fin 256) (j : Fin 7680) : val_main_v26 (F := Ideal) x g w (ix2 r j)
      = pack (fun q => ∑ k : Fin 2048, val_main_v12 (F := Ideal) x g (ix2 r k) * w (ix2 k q)) j := by
  have e : ∀ q : Fin 7264, ∑ k : Fin 2048, val_main_v12 (F := Ideal) x g (ix2 r k) * w (ix2 k q)
      = val_main_v13 (F := Ideal) x g w (ix2 r q) := by intro q; pointwise [val_main_v13]
  simp only [e]
  pointwise [val_main_v26, val_main_v25, val_main_v24, val_main_v23, val_main_v22, val_main_v21, val_main_v20,
    val_main_v19, val_main_v18, val_main_v17, val_main_v16, val_main_v15, val_main_v14, val_main_cst_2]
  exact pack_ladder (fun q => val_main_v13 (F := Ideal) x g w (ix2 r q)) j

/-- The call multiplies by the same matrix as the prompt's call. -/
theorem mat_entry (c : Dev nD) : V m c main_v13 = mat (m ((c : Thread nD τ).loc main_arg2)) := by
  rw [entry]
  after_results
  rfl

theorem mat_pack (c : Dev nD) (k : Fin 2048) (j : Fin 7680) : V m c main_v13 (ix2 k j)
      = pack (fun q => m ((c : Thread nD τ).loc main_arg2) (ix2 k q)) j := by
  rw [mat_entry]
  exact mat_apply _ k j

open Cert.Reference5Ideal.Read in
/-- A point's block of the product is the reference's product there: row `R` and column `J` of the result. -/
theorem point' (c : Dev nD) (t : Fin cfg0.N) (r : Fin 256) (j : Fin 1536) (R : Fin 256) (J : Fin 7680)
    (hR : R.val = t.val / 5 * 256 + r.val) (hJ : J.val = t.val % 5 * 1536 + j.val) :
    k0_pay2 (F := Ideal) (k0_pay1 (F := Ideal) (iblk m c 0 t) (iblk m c 1 t)) (iblk m c 2 t) (ix2 r j)
      = val_main_v26 (F := Ideal) (m ((c : Thread nD τ).loc main_arg0)) (m ((c : Thread nD τ).loc main_arg1))
          (m ((c : Thread nD τ).loc main_arg2)) (ix2 R J) := by
  have hw : ∀ k : Fin 2048, iblk m c 2 t (ix2 k j)
      = pack (fun q => m ((c : Thread nD τ).loc main_arg2) (ix2 k q)) J := by
    intro k
    rw [← mat_pack m c]
    blk_simp [iblk]
    congr 1
    blk_ext [idx t]
  have hr : ∀ k : Fin 2048, k0_pay1 (F := Ideal) (iblk m c 0 t) (iblk m c 1 t) (ix2 r k)
      = val_main_v12 (F := Ideal) (m ((c : Thread nD τ).loc main_arg0)) (m ((c : Thread nD τ).loc main_arg1)) (ix2 R k) := by
    intro k
    rw [rows_eq m c t]
    congr 1
    blk_ext [idx t]
  have hL : k0_pay2 (F := Ideal) (k0_pay1 (F := Ideal) (iblk m c 0 t) (iblk m c 1 t)) (iblk m c 2 t) (ix2 r j)
      = ∑ k : Fin 2048, k0_pay1 (F := Ideal) (iblk m c 0 t) (iblk m c 1 t) (ix2 r k) * iblk m c 2 t (ix2 k j) := by
    pointwise [k0_pay2]
  rw [hL, ref_pack, pack_sum]
  exact Finset.sum_congr rfl fun k _ => by rw [hw, hr]

open Cert.Reference5Ideal.Read in
theorem point (c : Dev nD) (t : Fin cfg0.N) (y : S256x1536.Idx) :
    k0_pay2 (F := Ideal) (k0_pay1 (F := Ideal) (iblk m c 0 t) (iblk m c 1 t)) (iblk m c 2 t) y
      = val_main_v26 (F := Ideal) (m ((c : Thread nD τ).loc main_arg0)) (m ((c : Thread nD τ).loc main_arg1))
          (m ((c : Thread nD τ).loc main_arg2)) (((cfg0.win 3).blk t).view.emb y) := by
  have hN : t.val < 5 := lt_of_lt_of_eq t.isLt (show cfg0.N = 5 from N_0)
  idx_vars y
  rw [point' m c t _ _ ⟨t.val / 5 * 256 + y0.val, by omega⟩ ⟨t.val % 5 * 1536 + y1.val, by omega⟩ rfl rfl]
  congr 1
  blk_ext [idx t]

open Cert.Reference5Ideal.Read in
/-- The call's result is the reference's product in the stored column order. -/
theorem final (c : Dev nD) : (dats m 0 c).arrAt 3 cfg0.N
    = val_main_v26 (F := Ideal) (m ((c : Thread nD τ).loc main_arg0)) (m ((c : Thread nD τ).loc main_arg1))
          (m ((c : Thread nD τ).loc main_arg2)) := by
  refine (dats m 0 c).arrAt_eq_of_covers 3 _ (by decide +kernel) fun t hf y => ?_
  blk_simp
  rw [after0_3, written]
  exact point m c t y

/-- What the host operations after the call leave in a buffer, from the call's result. -/
theorem tail (c : Dev nD) (b : Ref sig .tc) : Pipeline.afterTail₀ cfgs (dats m) 0 (V0 m) [hostOps1] c b
    = StableHlo.after hostOps1 (Pipeline.withArrays spec0 c (V0 m c) fun w => (dats m 0 c).arrAt w cfg0.N) (Proc.tc.devRef b) := by
  unfold Pipeline.afterTail₀
  rw [List.flatten_singleton]

/-- After the call its result's buffer holds its result. -/
theorem exit (c : Dev nD) : Pipeline.withArrays spec0 c (V0 m c) (fun w => (dats m 0 c).arrAt w cfg0.N)
    (Proc.tc.devRef main_v15) = (dats m 0 c).arrAt 3 cfg0.N :=
  Pipeline.withArrays_arr spec0 (by decide) c _ _ 3

theorem tail17 (c : Dev nD) : Pipeline.afterTail₀ cfgs (dats m) 0 (V0 m) [hostOps1] c main_v17
    = shapeCast S1x32x8x8x128 (extractStridedSlice S256x1024 ![0, 4096] ((dats m 0 c).arrAt 3 cfg0.N)
        slices_S256x7680_S256x1024_0_4096) shapeCasts_S256x1024_S1x32x8x8x128 := by
  rw [tail, ← exit]
  after_results
  rfl

theorem tail19 (c : Dev nD) : Pipeline.afterTail₀ cfgs (dats m) 0 (V0 m) [hostOps1] c main_v19
    = shapeCast S1x32x8x8x128 (extractStridedSlice S256x1024 ![0, 5120] ((dats m 0 c).arrAt 3 cfg0.N)
        slices_S256x7680_S256x1024_0_5120) shapeCasts_S256x1024_S1x32x8x8x128 := by
  rw [tail, ← exit]
  after_results
  rfl

theorem tail21 (c : Dev nD) : Pipeline.afterTail₀ cfgs (dats m) 0 (V0 m) [hostOps1] c main_v21
    = shapeCast S1x32x8x64 (extractStridedSlice S256x64 ![0, 7168] ((dats m 0 c).arrAt 3 cfg0.N)
        slices_S256x7680_S256x64_0_7168) shapeCasts_S256x64_S1x32x8x64 := by
  rw [tail, ← exit]
  after_results
  rfl

section
variable (x : FVec Ideal S256x2048 .f32) (g : FVec Ideal S2048 .f32) (w : FVec Ideal S2048x7264 .f32)
open Cert.Reference5Ideal.Read

/-- Sixteen columns further in the reference's order: the columns stored at 3072 to 7168. -/
theorem ref_b (r : Fin 256) (j : Fin 7680) (q : Fin 7264) (h : 3072 ≤ j.val ∧ j.val < 7168) (hq : q.val = j.val + 16) :
    val_main_v26 (F := Ideal) x g w (ix2 r j) = val_main_v13 (F := Ideal) x g w (ix2 r q) := by
  have hq' : (⟨j.val + 16, by omega⟩ : Fin 7264) = q := Fin.ext hq.symm
  rw [ref_pack, pack_b _ _ h, hq']
  pointwise [val_main_v13]

/-- The columns stored at 7168 to 7232. -/
theorem ref_c (r : Fin 256) (j : Fin 7680) (q : Fin 7264) (h : 7168 ≤ j.val ∧ j.val < 7232) (hq : q.val = j.val + 32) :
    val_main_v26 (F := Ideal) x g w (ix2 r j) = val_main_v13 (F := Ideal) x g w (ix2 r q) := by
  have hq' : (⟨j.val + 32, by omega⟩ : Fin 7264) = q := Fin.ext hq.symm
  rw [ref_pack, pack_c _ _ h, hq']
  pointwise [val_main_v13]

/-- The keys: the slice the kernel takes of the stored product is the reference's slice. -/
theorem keys : val_main_v27 (F := Ideal) x g w = shapeCast S1x32x8x8x128 (extractStridedSlice S256x1024 ![0, 4096]
    (val_main_v26 (F := Ideal) x g w) slices_S256x7680_S256x1024_0_4096) shapeCasts_S256x1024_S1x32x8x8x128 := by
  unfold val_main_v27 val_main_v20
  congr 1
  funext y
  idx_vars y
  have e := ref_b x g w y0 ⟨4096 + y1.val, by omega⟩ ⟨4112 + y1.val, by omega⟩ (by dsimp only; omega) (by dsimp only; omega)
  pointwise
  exact e.symm

/-- The values. -/
theorem values : val_main_v28 (F := Ideal) x g w = shapeCast S1x32x8x8x128 (extractStridedSlice S256x1024 ![0, 5120]
    (val_main_v26 (F := Ideal) x g w) slices_S256x7680_S256x1024_0_5120) shapeCasts_S256x1024_S1x32x8x8x128 := by
  unfold val_main_v28 val_main_v21
  congr 1
  funext y
  idx_vars y
  have e := ref_b x g w y0 ⟨5120 + y1.val, by omega⟩ ⟨5136 + y1.val, by omega⟩ (by dsimp only; omega) (by dsimp only; omega)
  pointwise
  exact e.symm

/-- The indexer's keys. -/
theorem index_keys : val_main_v29 (F := Ideal) x g w = shapeCast S1x32x8x64 (extractStridedSlice S256x64 ![0, 7168]
    (val_main_v26 (F := Ideal) x g w) slices_S256x7680_S256x64_0_7168) shapeCasts_S256x64_S1x32x8x64 := by
  unfold val_main_v29 val_main_v24
  congr 1
  funext y
  idx_vars y
  have e := ref_c x g w y0 ⟨7168 + y1.val, by omega⟩ ⟨7200 + y1.val, by omega⟩ (by dsimp only; omega) (by dsimp only; omega)
  pointwise
  exact e.symm
end

/-- The kernel's results are the reference's. -/
theorem algebraic : Cert.algebraic_Kernel5Ideal_Reference5Ideal := by
  pair_intro
  · run_from Cert.Kernel5Ideal.Gen.run_main m g
    · exact W_main_arg1 m (dats m) c
    · exact W_main_arg2 m (dats m) c
  · run_from Cert.Reference5Ideal.Value.run m' g'
    all_goals obtain ⟨h0, h1, h2⟩ := hagree c
    · rw [Cert.Reference5Ideal.Read.val_main_v26_eq, h0, h1, h2]
      exact (final m c).symm
    · rw [tail17, final]
      exact (Cert.Reference5Ideal.Read.val_main_v27_eq _ _ _).trans (keys _ _ _)
    · rw [tail19, final]
      exact (Cert.Reference5Ideal.Read.val_main_v28_eq _ _ _).trans (values _ _ _)
    · rw [tail21, final]
      exact (Cert.Reference5Ideal.Read.val_main_v29_eq _ _ _).trans (index_keys _ _ _)

end Cert.SampleProj

end
-- ==== Proof.Ffn.lean ====
/-
  The feed-forward network with the final normalisation. For a tile of 512 rows the kernel walks the 8192 hidden columns
  in 16 slices of 512: at the first slice it normalises the rows and clears a sum, at every slice it adds
  `relu(h · up)² · down` of the slice to the sum, at the last slice it adds the residual and normalises once more. The
  reference does the whole of it at once, row by row.
-/
module

public import proofs.«01_k».proof.Defs
public import proofs.«01_k».proof.Proof.Gen.Kernel2Ideal.Value
public import proofs.«01_k».proof.Proof.Gen.Reference2Ideal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Ffn

open Cert.Kernel2Ideal Cert.Kernel2Ideal.Gen

variable (m : (ℓ : Loc nD τ sig) → Buf (Elt Ideal) ℓ)

/-- Where each window's block sits at grid point `t` = 16 * row tile + slice. -/
theorem idx : ∀ t : Fin cfg0.N, win0_0.index t = ![t.val / 16, 0] ∧ win0_1.index t = ![0, 0]
    ∧ win0_2.index t = ![0, t.val % 16] ∧ win0_3.index t = ![t.val % 16, 0] ∧ win0_4.index t = ![0, 0]
    ∧ win0_5.index t = ![t.val / 16, 0] :=
  (by decide +kernel : ∀ t : Fin grid0.N, _)

/-- The normalised rows a point multiplies: those its row tile's first point stored. -/
theorem rows (c : Dev nD) : ∀ (n : ℕ) (hn : n < cfg0.N),
    (outsAt0 m c n hn).2.1 = k0_pay1 (F := Ideal) (iblk m c 0 ⟨n, hn⟩) (iblk m c 1 ⟨n, hn⟩) := by
  intro n
  induction n with
  | zero =>
    intro hn
    rw [outsAt0_A m c ⟨0, hn⟩ (by simp) (by simp)]
    frame_out
  | succ n ih =>
    intro hn
    have hN : n + 1 < 512 := lt_of_lt_of_eq hn (show cfg0.N = 512 from N_0)
    by_cases h0 : (n + 1) % 16 = 0
    · rw [outsAt0_A m c ⟨n + 1, hn⟩ h0 (by dsimp only; omega)]
      frame_out
    · have e0 : iblk m c 0 ⟨n, Nat.lt_of_succ_lt hn⟩ = iblk m c 0 ⟨n + 1, hn⟩ := by
        blk_ext! [iblk, V, idx ⟨n, Nat.lt_of_succ_lt hn⟩, idx ⟨n + 1, hn⟩]
      have e1 : iblk m c 1 ⟨n, Nat.lt_of_succ_lt hn⟩ = iblk m c 1 ⟨n + 1, hn⟩ := by
        blk_ext! [iblk, V, idx ⟨n, Nat.lt_of_succ_lt hn⟩, idx ⟨n + 1, hn⟩]
      have prev : ∀ (k : ℕ) (hk : k < cfg0.N), k = n → (outsAt0 m c k hk).2.1
          = k0_pay1 (F := Ideal) (iblk m c 0 ⟨n, Nat.lt_of_succ_lt hn⟩) (iblk m c 1 ⟨n, Nat.lt_of_succ_lt hn⟩) := by
        intro k hk e; subst e; exact ih _
      by_cases h1 : (n + 1) % 16 = 15
      · rw [outsAt0_C m c ⟨n + 1, hn⟩ h0 h1]
        dsimp only [sout0_C_0]
        exact (prev _ _ rfl).trans (by rw [e0, e1])
      · rw [outsAt0_B m c ⟨n + 1, hn⟩ h0 h1]
        dsimp only [sout0_B_0]
        exact (prev _ _ rfl).trans (by rw [e0, e1])

/-- A zero sum is zero at every index. -/
theorem zeros (j) : k0_pay2 (F := Ideal) j = 0 := by pointwise [k0_pay2]

/-- The part of one element of the second product that 512 hidden columns give: `Σ_l relu(Σ_k h_k u_kl)² d_l`. -/
def part (h : FVec Ideal S512x2048 .bf16) (u : FVec Ideal S2048x512 .bf16) (d : FVec Ideal S512x2048 .bf16) (j : S512x2048.Idx) : EReal :=
  ∑ l : Fin 512, (max (∑ k : Fin 2048, h (ix2 (j 0) k) * u (ix2 k l)) 0
    * max (∑ k : Fin 2048, h (ix2 (j 0) k) * u (ix2 k l)) 0) * d (ix2 l (j 1))

/-- One slice adds its 512 hidden columns' part to the sum. -/
theorem slice (h : FVec Ideal S512x2048 .bf16) (u : FVec Ideal S2048x512 .bf16) (acc : FVec Ideal S512x2048 .f32)
    (d : FVec Ideal S512x2048 .bf16) (j) : k0_pay3 (F := Ideal) h u acc d j = acc j + part h u d j := by
  pointwise [k0_pay3, part]

open Cert.Reference2Ideal.Read in
/-- The reference's second product, one element: the sum over all 8192 hidden columns. -/
theorem hidden (x : FVec Ideal S16384x2048 .f32) (g : FVec Ideal S2048 .f32) (u : FVec Ideal S2048x8192 .f32)
    (d : FVec Ideal S8192x2048 .f32) (j) : val_main_v16 (F := Ideal) x g u d j
      = ∑ l : Fin 8192, (max (∑ k : Fin 2048, val_main_v12 (F := Ideal) x g (ix2 (j 0) k) * u (ix2 k l)) 0
          * max (∑ k : Fin 2048, val_main_v12 (F := Ideal) x g (ix2 (j 0) k) * u (ix2 k l)) 0) * d (ix2 l (j 1)) := by
  pointwise [val_main_v16, val_main_v15, val_main_v14, val_main_v13, val_main_call0_v0, val_main_call0_cst]

open Cert.Reference2Ideal.Read in
/-- The rows a point multiplies are the reference's normalised rows. -/
theorem rows_eq (c : Dev nD) (t : Fin cfg0.N) (y : S512x2048.Idx) :
    k0_pay1 (F := Ideal) (iblk m c 0 t) (iblk m c 1 t) y
      = val_main_v12 (F := Ideal) (m ((c : Thread nD τ).loc main_arg0)) (m ((c : Thread nD τ).loc main_arg1))
          (((cfg0.win 0).blk t).view.emb y) := by
  pointwise [k0_pay1, val_main_v12, val_main_v11, val_main_v10, val_main_v9, val_main_v8, val_main_v7, val_main_v6,
    val_main_v5, val_main_v4, val_main_v3, val_main_v2, val_main_v1, val_main_v0, val_main_cst, val_main_cst_0, val_main_cst_1]
  blk_point [iblk, V, idx t]

open Cert.Reference2Ideal.Read in
/-- After a row tile's last slice the sum holds the reference's second product. -/
theorem sum_eq (c : Dev nD) (t : Fin cfg0.N) (ht : t.val % 16 = 15) (y : S512x2048.Idx) :
    (outsAt0 m c t.val t.isLt).2.2 y
      = val_main_v16 (F := Ideal) (m ((c : Thread nD τ).loc main_arg0)) (m ((c : Thread nD τ).loc main_arg1))
          (m ((c : Thread nD τ).loc main_arg2)) (m ((c : Thread nD τ).loc main_arg3))
          (((cfg0.win 5).blk t).view.emb y) := by
  rw [hidden, Pipeline.eq_sum_fin_of_reset_step_apply_of_flush (fun n h => (outsAt0 m c n h).2.2) 16 (fun _ => 0)
    (fun p j => part (k0_pay1 (F := Ideal) (iblk m c 0 p) (iblk m c 1 p)) (iblk m c 2 p) (iblk m c 3 p) j)
    (fun t h j => by
      have h1 : ¬ t.val % 16 = 15 := by omega
      rw [outsAt0_A m c t h h1]; frame_out; rw [slice, zeros])
    (fun t h j => by
      have hr := rows m c t.val t.isLt
      have hp : (outsAt0 m c (t.val - 1) (Nat.lt_of_le_of_lt (Nat.sub_le _ _) t.isLt)).2.1
          = k0_pay1 (F := Ideal) (iblk m c 0 t) (iblk m c 1 t) := by
        by_cases h1 : t.val % 16 = 15
        · rw [outsAt0_C m c t h h1] at hr; dsimp only [sout0_C_0] at hr; exact hr
        · rw [outsAt0_B m c t h h1] at hr; dsimp only [sout0_B_0] at hr; exact hr
      by_cases h1 : t.val % 16 = 15
      · rw [outsAt0_C m c t h h1]; frame_out; rw [read_unread_whole, read_unread_whole, hp, slice]
      · rw [outsAt0_B m c t h h1]; frame_out; rw [read_unread_whole, read_unread_whole, hp, slice])
    t ht y, zero_add]
  unfold part
  refine Fin.sum_mul_add_congr fun s k hl => ?_
  simp only [rows_eq]
  blk_point [iblk, V, idx t, idx ⟨_, Pipeline.run_point_lt_of_flush t ht s⟩]

open Cert.Reference2Ideal.Read in
/-- What a row tile's last point writes back is the reference read where the tile sits. -/
theorem point (c : Dev nD) (t : Fin cfg0.N) (ht : t.val % 16 = 15) (y : S512x2048.Idx) :
    (outsAt0 m c t.val t.isLt).1 y
      = val_main_v30 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (((cfg0.win 5).blk t).view.emb y) := by
  have h0 : ¬ t.val % 16 = 0 := by omega
  have e : (outsAt0 m c t.val t.isLt).1 = k0_pay4 (F := Ideal) (iblk m c 0 t) (outsAt0 m c t.val t.isLt).2.2 (iblk m c 4 t) := by
    rw [outsAt0_C m c t h0 ht]; frame_out
  rw [e]
  pointwise [k0_pay4, val_main_v30, val_main_v29, val_main_v28, val_main_v27, val_main_v26, val_main_v25, val_main_v24,
    val_main_v23, val_main_v22, val_main_v21, val_main_v20, val_main_v19, val_main_v18, val_main_v17, val_main_cst_2,
    val_main_cst_3, val_main_cst_4]
  simp only [sum_eq m c t ht]
  blk_point [iblk, V, idx t]

open Cert.Reference2Ideal.Read in
/-- The result array after the run. -/
theorem final (c : Dev nD) : (dats m 0 c).arrAt 5 cfg0.N
    = val_main_v30 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  exact point m c t ((flush0_5 t).mp hf) y

end Cert.Ffn

/-- The kernel's result and the reference's are the same array of the same arguments. -/
theorem Cert.Ffn.algebraic : Cert.algebraic_Kernel2Ideal_Reference2Ideal := by
  pair_intro
  · run_from Cert.Kernel2Ideal.Gen.run_main m g
  · run_from Cert.Reference2Ideal.Value.run m' g'
    obtain ⟨h0, h1, h2, h3, h4⟩ := hagree c
    rw [Cert.Reference2Ideal.Read.val_main_v30_eq, h0, h1, h2, h3, h4]
    exact (Cert.Ffn.final m c).symm

end
-- ==== Proof.OutProj.lean ====
/-
  The output projection. The kernel computes a tile of `x + oa · wa + ob · wb`, the two attention outputs against the
  two halves of the output matrix; the reference joins the two outputs along the columns and multiplies the result by the
  whole matrix. A sum over 2048 joined columns is the sum over the first 1024 plus the sum over the last 1024.
-/
module

public import proofs.«01_k».proof.Defs
public import proofs.«01_k».proof.Proof.Gen.Kernel4Ideal.Value
public import proofs.«01_k».proof.Proof.Gen.Reference4Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutProj

open Cert.Kernel4Ideal Cert.Kernel4Ideal.Gen

variable (m : (ℓ : Loc nD τ sig) → Buf (Elt Ideal) ℓ)

/-- The output projection, one element: the residual plus the two products against the upper and the lower half of `w`. -/
def G (x : FVec Ideal S16384x2048 .f32) (oa ob : FVec Ideal S16384x1024 .bf16) (w : FVec Ideal S2048x2048 .f32) :
    FVec Ideal S16384x2048 .f32 :=
  Cert.Reference4Ideal.Read.val_main_v4 (F := Ideal) x oa ob w

/-- Where each window's block sits at grid point `t` = 4 * row tile + column tile. -/
theorem idx : ∀ t : Fin cfg0.N, win0_0.index t = ![(grid0.coords t 0).val, (grid0.coords t 1).val]
    ∧ win0_1.index t = ![(grid0.coords t 0).val, 0] ∧ win0_2.index t = ![(grid0.coords t 0).val, 0]
    ∧ win0_3.index t = ![0, (grid0.coords t 1).val] ∧ win0_4.index t = ![0, (grid0.coords t 1).val]
    ∧ win0_5.index t = ![(grid0.coords t 0).val, (grid0.coords t 1).val] :=
  (by decide +kernel : ∀ t : Fin grid0.N, _)

/-- What point `t` computes at index `y` of its tile is the reference read at the array index `y` sits at. -/
theorem point (c : Dev nD) (t : Fin cfg0.N) (y) :
    k0_pay1 (F := Ideal) (iblk m c 0 t) (iblk m c 1 t) (iblk m c 3 t) (iblk m c 2 t) (iblk m c 4 t) y
      = G (m ((c : Thread nD τ).loc main_arg0)) (m ((c : Thread nD τ).loc main_arg1)) (m ((c : Thread nD τ).loc main_arg2))
          (m ((c : Thread nD τ).loc main_arg3)) (((cfg0.win 5).blk t).view.emb y) := by
  pointwise [k0_pay1, G, Cert.Reference4Ideal.Read.val_main_v4, Cert.Reference4Ideal.Read.val_main_v3,
    Cert.Reference4Ideal.Read.val_main_v2, Cert.Reference4Ideal.Read.val_main_v1, Cert.Reference4Ideal.Read.val_main_v0]
  rw [add_assoc]
  blk_point [iblk, V, idx t]

/-- The result array after the run. -/
theorem final (c : Dev nD) : (dats m 0 c).arrAt 5 cfg0.N
    = G (m ((c : Thread nD τ).loc main_arg0)) (m ((c : Thread nD τ).loc main_arg1)) (m ((c : Thread nD τ).loc main_arg2))
          (m ((c : Thread nD τ).loc main_arg3)) := by
  refine (dats m 0 c).arrAt_eq_of_covers 5 _ (by decide +kernel) fun t _ y => ?_
  blk_simp
  rw [after0_5]
  frame_out
  exact point m c t y

end Cert.OutProj

/-- The kernel's result and the reference's are the same array of the same arguments. -/
theorem Cert.OutProj.algebraic : Cert.algebraic_Kernel4Ideal_Reference4Ideal := by
  pair_intro
  · run_from Cert.Kernel4Ideal.Gen.run_main m g
  · run_from Cert.Reference4Ideal.Value.run m' g'
    obtain ⟨h0, h1, h2, h3⟩ := hagree c
    rw [Cert.Reference4Ideal.Read.val_main_v4_eq, h1, h2]
    exact (Cert.OutProj.final m c).symm

end
-- ==== Proof.GlaRef.lean ====
/-
  The gated linear attention's mathematics: what a token reads, the state after the eight tokens, the gate, the
  normalised row; and the reference's stages as these functions of its arguments.
-/
module

public import proofs.«01_k».proof.Defs
public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem

namespace Cert.Gla

/-- What a token reads: through the carried state, and from the tokens not after it. -/
def headOut (B Q K : Fin 8 → Fin 128 → EReal) (W : Fin 8 → Fin 256 → EReal) (S : Fin 128 → Fin 256 → EReal)
    (i : Fin 8) (e : Fin 256) : EReal :=
  (∑ d : Fin 128, Q i d * Ideal.exp (B i d) * S d e)
    + ∑ j : Fin 8, if j ≤ i then (∑ d : Fin 128, Q i d * K j d * Ideal.exp (B i d - B j d)) * W j e else 0

/-- The state after the eight tokens. -/
def headState (B K : Fin 8 → Fin 128 → EReal) (W : Fin 8 → Fin 256 → EReal) (S : Fin 128 → Fin 256 → EReal)
    (d : Fin 128) (e : Fin 256) : EReal :=
  Ideal.exp (B 7 d) * S d e + ∑ j : Fin 8, K j d * Ideal.exp (B 7 d - B j d) * W j e

/-- The gate's logarithm from its linear part, over sixteen. -/
def gate (z : EReal) : EReal :=
  Ideal.div (min z 0 - Ideal.log1p (Ideal.exp (-(FloatOps.absf (F := Ideal) (φ := .f32) z)))) (Ideal.ofBits FTy.f32 1098907648#32)

/-- A row normalised, scaled and gated. -/
def normed (O : Fin 256 → EReal) (w g : EReal) (e : Fin 256) : EReal :=
  O e * Ideal.rsqrt (Ideal.div (∑ x : Fin 256, O x * O x) (Ideal.ofBits FTy.f32 1132462080#32) + Ideal.ofBits FTy.f32 897988541#32) * w
    * (g * Ideal.div 1 (1 + Ideal.exp (-g)))

/-- The logarithm of one plus an exponential of a number not above zero is a real number. -/
theorem real_log (z : EReal) (hz : z ≤ 0) : ∃ r : ℝ, Ideal.log1p (Ideal.exp z) = (r : EReal) := by
  induction z using EReal.rec with
  | bot =>
    refine ⟨Real.log 1, ?_⟩
    show Ideal.log (1 + 0) = _
    rw [add_zero]
    exact if_neg (by norm_num)
  | coe r =>
    refine ⟨Real.log (1 + Real.exp r), ?_⟩
    show Ideal.log (1 + (Real.exp r : EReal)) = _
    rw [show (1 : EReal) + (Real.exp r : EReal) = ((1 + Real.exp r : ℝ) : EReal) from by push_cast; rfl]
    exact if_neg (by have := Real.exp_pos r; linarith)
  | top => simp at hz

theorem softplus (z : EReal) : -(max (-z) 0 + Ideal.log1p (Ideal.exp (-(FloatOps.absf (F := Ideal) (φ := .f32) (-z)))))
    = min z 0 - Ideal.log1p (Ideal.exp (-(FloatOps.absf (F := Ideal) (φ := .f32) z))) := by
  have ha : FloatOps.absf (F := Ideal) (φ := .f32) (-z) = FloatOps.absf (F := Ideal) (φ := .f32) z := by
    show max (-z) (-(-z)) = max z (-z)
    rw [neg_neg, max_comm]
  rw [ha]
  have hm : -(max (-z) 0) = min z 0 := by
    rcases le_total z 0 with c | c
    · rw [min_eq_left c, max_eq_left (by rw [EReal.neg_nonneg]; exact c), neg_neg]
    · rw [min_eq_right c, max_eq_right (by have := EReal.neg_le_neg_iff.mpr c; rwa [neg_zero] at this), neg_zero]
  have hn : -(FloatOps.absf (F := Ideal) (φ := .f32) z) ≤ 0 := by
    show -(max z (-z)) ≤ 0
    rw [← neg_zero, EReal.neg_le_neg_iff]
    rcases le_total z 0 with c | c
    · exact le_max_of_le_right (by rw [EReal.neg_nonneg]; exact c)
    · exact le_max_of_le_left c
  obtain ⟨r, hr⟩ := real_log _ hn
  rw [hr, EReal.neg_add (Or.inr (EReal.coe_ne_top r)) (Or.inr (EReal.coe_ne_bot r)), hm]

open Cert.ReferenceIdeal Cert.ReferenceIdeal.Read
variable (x0 : FVec Ideal S256x7680 .f32) (x1 : FVec Ideal S16x512 .f32) (x2 : FVec Ideal S512 .f32)
  (x3 : FVec Ideal S256 .f32) (x4 : FVec Ideal S32x4x128x256 .f32)

/-- A position of the running sum's window runs along the tokens alone. -/
theorem position : ∀ (k : Fin (Shape.numel ⟨4, ![1, 1, 8, 1]⟩)) (a : Fin 4),
    ((Shape.rowMajor ⟨4, ![1, 1, 8, 1]⟩).symm k a).val = ![0, 0, k.val, 0] a := by
  decide +kernel

/-- The window's element at position `k` for token `i`. -/
def tap (y : Fin 8 → EReal) (i : Fin 8) (k : ℕ) : EReal := if h : 7 ≤ i.val + k ∧ i.val + k - 7 < 8 then y ⟨i.val + k - 7, h.2⟩ else 0

theorem cum_window (y : FVec Ideal S32x4x8x128 .f32) (n : Fin 32) (h : Fin 4) (i : Fin 8) (d : Fin 128)
    (H : S32x4x8x128.ReduceWindows ![1, 1, 8, 1] ![1, 1, 1, 1] ![0, 0, 7, 0] ![0, 0, 0, 0] S32x4x8x128) :
    Ideal.hostReduceWindowAdd ![1, 1, 8, 1] ![1, 1, 1, 1] ![0, 0, 7, 0] ![0, 0, 0, 0] H y 0 (ix4 n h i d)
      = ∑ j : Fin 8, if j ≤ i then y (ix4 n h j d) else 0 := by
  unfold Ideal.hostReduceWindowAdd Host.reduceWindow
  show List.foldl _ (0 : EReal) (List.finRange (Shape.numel ⟨4, ![1, 1, 8, 1]⟩)) = _
  have u : (List.finRange (Shape.numel ⟨4, ![1, 1, 8, 1]⟩)).foldl
      (fun r k => r + tap (fun j => y (ix4 n h j d)) i k.val) (0 : EReal)
      = 0 + tap (fun j => y (ix4 n h j d)) i 0 + tap (fun j => y (ix4 n h j d)) i 1 + tap (fun j => y (ix4 n h j d)) i 2
        + tap (fun j => y (ix4 n h j d)) i 3 + tap (fun j => y (ix4 n h j d)) i 4 + tap (fun j => y (ix4 n h j d)) i 5
        + tap (fun j => y (ix4 n h j d)) i 6 + tap (fun j => y (ix4 n h j d)) i 7 := rfl
  refine Eq.trans (congrArg (fun f => List.foldl f (0 : EReal) (List.finRange (Shape.numel ⟨4, ![1, 1, 8, 1]⟩)))
    (funext fun r => funext fun k => congrArg (r + ·) ?_)) (u.trans ?_)
  · have hk : k.val < 8 := k.isLt
    unfold tap
    by_cases c : 7 ≤ i.val + k.val ∧ i.val + k.val - 7 < 8
    · have c' : ∀ a : Fin 4, ![0, 0, 7, 0] a ≤ (ix4 n h i d a).val * ![1, 1, 1, 1] a
            + ((Shape.rowMajor ⟨4, ![1, 1, 8, 1]⟩).symm k a).val ∧ (ix4 n h i d a).val * ![1, 1, 1, 1] a
            + ((Shape.rowMajor ⟨4, ![1, 1, 8, 1]⟩).symm k a).val - ![0, 0, 7, 0] a < S32x4x8x128.size a := by
        intro a
        rw [position]
        have := n.isLt
        have := h.isLt
        have := d.isLt
        fin_cases a <;> simp [ix4] <;> omega
      refine (dif_pos c').trans ?_
      rw [dif_pos c]
      refine congrArg y (funext fun a => Fin.ext ?_)
      show (ix4 n h i d a).val * ![1, 1, 1, 1] a + ((Shape.rowMajor ⟨4, ![1, 1, 8, 1]⟩).symm k a).val - ![0, 0, 7, 0] a = _
      rw [position]
      fin_cases a <;> simp [ix4]
    · rw [dif_neg c]
      refine dif_neg fun c' => c ?_
      have c2 : 7 ≤ (ix4 n h i d 2).val * 1 + ((Shape.rowMajor ⟨4, ![1, 1, 8, 1]⟩).symm k 2).val
          ∧ (ix4 n h i d 2).val * 1 + ((Shape.rowMajor ⟨4, ![1, 1, 8, 1]⟩).symm k 2).val - 7 < 8 := c' (2 : Fin 4)
      rw [position] at c2
      simpa [ix4] using c2
  rw [Fin.sum_univ_eight]
  generalize hz : (fun j => y (ix4 n h j d)) = z
  have e : ∀ j, y (ix4 n h j d) = z j := fun j => congrFun hz j
  simp only [e]
  clear u e hz
  fin_cases i <;> simp [tap] <;> rfl

open Cert.ReferenceIdeal.Gen in
theorem ref_cum (n : Fin 32) (h : Fin 4) (i : Fin 8) (d : Fin 128) : val_main_v26 (F := Ideal) x0 x1 x2 (ix4 n h i d)
      = ∑ j : Fin 8, if j ≤ i then val_main_v22 (F := Ideal) x0 x1 x2 (ix4 n h j d) else 0 := by
  have e : val_main_call2_call0_v0 (F := Ideal) (Shape.Idx.first h_S_) = 0 := by pointwise [val_main_call2_call0_v0, val_main_call2_call0_cst]
  unfold val_main_v26 Host.reduceWindowAdd
  rw [e]
  exact cum_window _ n h i d _

theorem ref_gate (n : Fin 32) (h : Fin 4) (j : Fin 8) (d : Fin 128) (R : Fin 256) (D : Fin 512) (hR : R.val = n.val * 8 + j.val)
    (hD : D.val = h.val * 128 + d.val) : val_main_v22 (F := Ideal) x0 x1 x2 (ix4 n h j d)
      = gate (∑ x : Fin 16, x0 (ix2 R ⟨7232 + x.val, by omega⟩) * x1 (ix2 x D) + x2 (ix1 D)) := by
  obtain ⟨R, hR'⟩ := R
  dsimp only at hR
  subst hR
  obtain ⟨D, hD'⟩ := D
  dsimp only at hD
  subst hD
  unfold gate
  rw [← softplus]
  pointwise [val_main_v22, val_main_v16, val_main_v15, val_main_v14, val_main_cst, val_main_v13, val_main_call0_v1,
    val_main_call0_call0_v11, val_main_call0_call0_v10, val_main_call0_call0_v9, val_main_call0_call0_v8,
    val_main_call0_call0_v7, val_main_call0_call0_v6, val_main_call0_call0_v5, val_main_call0_call0_v4,
    val_main_call0_call0_v3, val_main_call0_call0_v2, val_main_call0_call0_v1, val_main_call0_call0_v0,
    val_main_call0_call0_cst, val_main_call0_v0, val_main_v12, val_main_v11, val_main_v10, val_main_v9, val_main_v8, val_main_v0]
  rw [if_neg (not_not.mpr rfl)]

theorem ref_q (n : Fin 32) (h : Fin 4) (j : Fin 8) (d : Fin 128) (R : Fin 256) (D : Fin 7680) (hR : R.val = n.val * 8 + j.val)
    (hD : D.val = h.val * 128 + d.val) : val_main_v19 (F := Ideal) x0 (ix4 n h j d)
      = x0 (ix2 R D) * Ideal.ofBits FTy.f32 1035273459#32 := by
  obtain ⟨R, hR'⟩ := R
  dsimp only at hR
  subst hR
  obtain ⟨D, hD'⟩ := D
  dsimp only at hD
  subst hD
  pointwise [val_main_v19, val_main_v18, val_main_v17, val_main_cst_0, val_main_v2, val_main_v1, val_main_v0]

theorem ref_k (n : Fin 32) (h : Fin 4) (j : Fin 8) (d : Fin 128) (R : Fin 256) (D : Fin 7680) (hR : R.val = n.val * 8 + j.val)
    (hD : D.val = 512 + (h.val * 128 + d.val)) : val_main_v20 (F := Ideal) x0 (ix4 n h j d) = x0 (ix2 R D) := by
  obtain ⟨R, hR'⟩ := R
  dsimp only at hR
  subst hR
  obtain ⟨D, hD'⟩ := D
  dsimp only at hD
  subst hD
  pointwise [val_main_v20, val_main_v4, val_main_v3, val_main_v0]

theorem ref_v (n : Fin 32) (h : Fin 4) (j : Fin 8) (e : Fin 256) (R : Fin 256) (D : Fin 7680) (hR : R.val = n.val * 8 + j.val)
    (hD : D.val = 1024 + (h.val * 256 + e.val)) : val_main_v21 (F := Ideal) x0 (ix4 n h j e) = x0 (ix2 R D) := by
  obtain ⟨R, hR'⟩ := R
  dsimp only at hR
  subst hR
  obtain ⟨D, hD'⟩ := D
  dsimp only at hD
  subst hD
  pointwise [val_main_v21, val_main_v6, val_main_v5, val_main_v0]

/-- Which tokens a token sees. -/
theorem seen (i j : Fin 8) : val_main_v24 (F := Ideal) (ix2 i j) = if j ≤ i then 1#1 else 0#1 := by
  pointwise [val_main_v24, val_main_call1_v5, val_main_call1_c_0, val_main_call1_v4, val_main_call1_v3, val_main_call1_v2,
    val_main_call1_v1, val_main_call1_c, val_main_call1_v0, val_main_v23, val_main_c]
  revert i j
  decide

theorem ref_score (n : Fin 32) (h : Fin 4) (i j : Fin 8) : val_main_v44 (F := Ideal) x0 x1 x2 (ix4 n h i j)
    = if j ≤ i then ∑ d : Fin 128, val_main_v19 (F := Ideal) x0 (ix4 n h i d) * val_main_v20 (F := Ideal) x0 (ix4 n h j d)
        * Ideal.exp (val_main_v26 (F := Ideal) x0 x1 x2 (ix4 n h i d) - val_main_v26 (F := Ideal) x0 x1 x2 (ix4 n h j d)) else 0 := by
  pointwise [val_main_v44, val_main_cst_3, val_main_v43, val_main_v42, val_main_v41, val_main_v40, val_main_v39, val_main_v38,
    val_main_v37, val_main_call4_v2, val_main_call4_v1, val_main_call4_v0, val_main_cst_2, val_main_v36, val_main_v35,
    val_main_call3_v2, val_main_call3_v1, val_main_call3_v0, val_main_cst_1, val_main_v34, val_main_v33, val_main_v32,
    val_main_v31, val_main_v30, val_main_v25]
  have z : (id (constant (F := Ideal) S_ FTy.f32 0#32) : FVec Ideal S_ .f32) ix0 = 0 := by
    show constant (F := Ideal) S_ FTy.f32 0#32 ix0 = 0
    pointwise
  rw [z, seen]
  by_cases c : j ≤ i
  · simp only [if_pos c]
    rfl
  · simp only [if_neg c]
    refine Finset.sum_eq_zero fun d _ => ?_
    exact mul_zero _

theorem ref_out (n : Fin 32) (h : Fin 4) (i : Fin 8) (e : Fin 256) : val_main_v58 (F := Ideal) x0 x1 x2 x4 (ix4 n h i e)
    = headOut (fun i d => val_main_v26 (F := Ideal) x0 x1 x2 (ix4 n h i d)) (fun i d => val_main_v19 (F := Ideal) x0 (ix4 n h i d))
        (fun i d => val_main_v20 (F := Ideal) x0 (ix4 n h i d)) (fun i e => val_main_v21 (F := Ideal) x0 (ix4 n h i e))
        (fun d e => x4 (ix4 n h d e)) i e := by
  have ex : ∀ j, val_main_v44 (F := Ideal) x0 x1 x2 (ix4 n h i j) * val_main_v21 (F := Ideal) x0 (ix4 n h j e) = _ := fun j => by
    rw [ref_score, ite_mul, zero_mul]
  have e1 : val_main_v45 (F := Ideal) x0 x1 x2 (ix4 n h i e)
      = ∑ j : Fin 8, val_main_v44 (F := Ideal) x0 x1 x2 (ix4 n h i j) * val_main_v21 (F := Ideal) x0 (ix4 n h j e) := by
    pointwise [val_main_v45]
  have e2 : val_main_v29 (F := Ideal) x0 x1 x2 x4 (ix4 n h i e)
      = ∑ d : Fin 128, val_main_v19 (F := Ideal) x0 (ix4 n h i d) * Ideal.exp (val_main_v26 (F := Ideal) x0 x1 x2 (ix4 n h i d)) * x4 (ix4 n h d e) := by
    pointwise [val_main_v29, val_main_v28, val_main_v27]
  have e3 : val_main_v58 (F := Ideal) x0 x1 x2 x4 (ix4 n h i e)
      = val_main_v29 (F := Ideal) x0 x1 x2 x4 (ix4 n h i e) + val_main_v45 (F := Ideal) x0 x1 x2 (ix4 n h i e) := by
    pointwise [val_main_v58]
  rw [e3, e2, e1, Finset.sum_congr rfl fun j _ => ex j]
  rfl

theorem ref_state (n : Fin 32) (h : Fin 4) (d : Fin 128) (e : Fin 256) : val_main_v57 (F := Ideal) x0 x1 x2 x4 (ix4 n h d e)
    = headState (fun i d => val_main_v26 (F := Ideal) x0 x1 x2 (ix4 n h i d))
        (fun i d => val_main_v20 (F := Ideal) x0 (ix4 n h i d)) (fun i e => val_main_v21 (F := Ideal) x0 (ix4 n h i e))
        (fun d e => x4 (ix4 n h d e)) d e := by
  unfold headState
  pointwise [val_main_v57, val_main_v56, val_main_v55, val_main_v54, val_main_v53, val_main_v52, val_main_v51, val_main_v50,
    val_main_v49, val_main_v48, val_main_v47, val_main_v46]

theorem ref_result (n : Fin 32) (h : Fin 4) (i : Fin 8) (e : Fin 256) (R : Fin 256) (D : Fin 1024) (G : Fin 7680)
    (hR : R.val = n.val * 8 + i.val) (hD : D.val = h.val * 256 + e.val) (hG : G.val = 2048 + (h.val * 256 + e.val)) :
    val_main_v77 (F := Ideal) x0 x1 x2 x3 x4 (ix2 R D)
      = normed (fun e => val_main_v58 (F := Ideal) x0 x1 x2 x4 (ix4 n h i e)) (x3 (ix1 e)) (x0 (ix2 R G)) e := by
  obtain ⟨R, hR'⟩ := R
  dsimp only at hR
  subst hR
  obtain ⟨D, hD'⟩ := D
  dsimp only at hD
  subst hD
  obtain ⟨G, hG'⟩ := G
  dsimp only at hG
  subst hG
  unfold normed
  pointwise [val_main_v77, val_main_v76, val_main_v75, val_main_v74, val_main_call5_v5, val_main_call5_v4, val_main_call5_cst_0,
    val_main_call5_v3, val_main_call5_v2, val_main_call5_cst, val_main_call5_v1, val_main_call5_v0, val_main_v7, val_main_v0,
    val_main_v73, val_main_v72, val_main_v71, val_main_v70, val_main_v69, val_main_v68, val_main_v67, val_main_v66,
    val_main_v65, val_main_cst_6, val_main_v64, val_main_v63, val_main_cst_5, val_main_v62, val_main_v61, val_main_cst_4,
    val_main_v60, val_main_v59]

end Cert.Gla

end
-- ==== Proof.GlaHead.lean ====
/-
  The kernel's arithmetic for one head of eight tokens, its payloads read at an index: the running sum of the gates'
  logarithms, the head's output, the new state, the normalised and gated row.
-/
module

public import proofs.«01_k».proof.Defs
public import proofs.«01_k».proof.Proof.Gen.KernelIdeal.Frame
public import proofs.«01_k».proof.Proof.Gen.ReferenceIdeal.Read
public import proofs.«01_k».proof.Proof.GlaRef
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Gla

open Cert.KernelIdeal Cert.KernelIdeal.Gen

/-- Row `i` of the scores' sum within the eight tokens, the later tokens masked. -/
def row (b q k : FVec Ideal S8x128 .f32) (v : FVec Ideal S8x256 .f32) (i : Fin 8) (e : Fin 256) : EReal :=
  ∑ j : Fin 8, Scalar.select (IntOp.cmpi CmpIPredicate.sle (BitVec.ofNat 32 (j : ℕ)) (BitVec.ofNat 32 (i : ℕ)))
    ((∑ d : Fin 128, q (ix2 i d) * k (ix2 j d) * Ideal.exp
      (Scalar.select (IntOp.cmpi CmpIPredicate.sle (BitVec.ofNat 32 (j : ℕ)) (BitVec.ofNat 32 (i : ℕ)))
        (b (ix2 i d) - b (ix2 j d)) 0)) * v (ix2 j e)) 0

variable (b q k : FVec Ideal S8x128 .f32) (v : FVec Ideal S8x256 .f32) (s : FVec Ideal S1x256x128 .f32)

theorem row0 (e : Fin 256) : k0_pay19 (F := Ideal) v k0_pay16 (k0_pay17 (F := Ideal) q k) (k0_pay18 (F := Ideal) b) (ix2 0 e) = row b (k0_pay13 (F := Ideal) q) k v 0 e := by
  unfold row
  pointwise [k0_pay19, k0_pay16, k0_pay17, k0_pay18, k0_pay13]

theorem row1 (e : Fin 256) : k0_pay20 (F := Ideal) (iota Kind.tc S8x1 32 [0] iota_S8x1_d0_w32) b q k v (ix2 0 e) = row b q k v 1 e := by
  unfold row
  pointwise [k0_pay20]

theorem row2 (e : Fin 256) : k0_pay24 (F := Ideal) v (k0_pay21 (iota Kind.tc S8x1 32 [0] iota_S8x1_d0_w32)) (k0_pay22 (F := Ideal) (iota Kind.tc S8x1 32 [0] iota_S8x1_d0_w32) b q k) k0_pay23 (ix2 0 e) = row b q k v 2 e := by
  unfold row
  pointwise [k0_pay24, k0_pay21, k0_pay22, k0_pay23]

theorem row3 (e : Fin 256) : k0_pay25 (F := Ideal) (iota Kind.tc S8x1 32 [0] iota_S8x1_d0_w32) b q k v (ix2 0 e) = row b q k v 3 e := by
  unfold row
  pointwise [k0_pay25]

theorem row4 (e : Fin 256) : k0_pay26 (F := Ideal) (iota Kind.tc S8x1 32 [0] iota_S8x1_d0_w32) b q k v (ix2 0 e) = row b q k v 4 e := by
  unfold row
  pointwise [k0_pay26]

theorem row5 (e : Fin 256) : k0_pay27 (F := Ideal) (iota Kind.tc S8x1 32 [0] iota_S8x1_d0_w32) b q k v (ix2 0 e) = row b q k v 5 e := by
  unfold row
  pointwise [k0_pay27]

theorem row6 (e : Fin 256) : k0_pay28 (F := Ideal) (iota Kind.tc S8x1 32 [0] iota_S8x1_d0_w32) b q k v (ix2 0 e) = row b q k v 6 e := by
  unfold row
  pointwise [k0_pay28]

/-- The eighth row, as the payload that stacks the rows computes it. -/
def last (b q k : FVec Ideal S8x128 .f32) (v : FVec Ideal S8x256 .f32) : FVec Ideal S1x256 .f32 :=
  shapeCast S1x256 (multiReduction .add [0] S256 (mulf (broadcastTo S8x256 (select (k0_pay29 (iota Kind.tc S8x1 32 [0] iota_S8x1_d0_w32))
    (shapeCast S8x1 (multiReduction .add [1] S8 (mulf (mulf (broadcastTo S8x128
      (extractStridedSlice S1x128 ![7, 0] q slices_S8x128_o7_0_S1x128) broadcasts_S1x128_S8x128) k)
      (exp (select (broadcastTo S8x128 (shapeCast S8x1 (k0_pay29 (iota Kind.tc S8x1 32 [0] iota_S8x1_d0_w32)) shapeCasts_S8x1_S8x1) broadcasts_S8x1_S8x128)
        (k0_pay30 (F := Ideal) b) (broadcast S8x128 (Scalar.ofBits .f32 0x00000000#32)))))
      0x00000000#32 reduces_S8x128_S8 (.inl rfl) rfl) shapeCasts_S8_S8x1)
    (broadcast S8x1 (Scalar.ofBits .f32 0x00000000#32))) broadcasts_S8x1_S8x256) v)
    0x00000000#32 reduces_S8x256_S256 (.inl rfl) rfl) shapeCasts_S256_S1x256

theorem row7 (e : Fin 256) : last b q k v (ix2 0 e) = row b q k v 7 e := by
  unfold row
  pointwise [last, k0_pay29, k0_pay30]

/-- Eight rows laid under each other and added to an array. -/
def pile (o : FVec Ideal S8x256 .f32) (r0 r1 r2 r3 r4 r5 r6 r7 : FVec Ideal S1x256 .f32) : FVec Ideal S8x256 .f32 :=
  shapeCast S8x256 (addf o (concatenate S8x256 0 [⟨S1x256, r0⟩, ⟨S1x256, r1⟩, ⟨S1x256, r2⟩, ⟨S1x256, r3⟩, ⟨S1x256, r4⟩,
    ⟨S1x256, r5⟩, ⟨S1x256, r6⟩, ⟨S1x256, r7⟩]
    concatenates_S1x256_S1x256_S1x256_S1x256_S1x256_S1x256_S1x256_S1x256_S8x256_d0)) shapeCasts_S8x256_S8x256

theorem pile_apply (o : FVec Ideal S8x256 .f32) (r0 r1 r2 r3 r4 r5 r6 r7 : FVec Ideal S1x256 .f32) (R : Fin 8 → EReal) (e : Fin 256)
    (h0 : r0 (ix2 0 e) = R 0) (h1 : r1 (ix2 0 e) = R 1) (h2 : r2 (ix2 0 e) = R 2) (h3 : r3 (ix2 0 e) = R 3)
    (h4 : r4 (ix2 0 e) = R 4) (h5 : r5 (ix2 0 e) = R 5) (h6 : r6 (ix2 0 e) = R 6) (h7 : r7 (ix2 0 e) = R 7) (i : Fin 8) :
    pile o r0 r1 r2 r3 r4 r5 r6 r7 (ix2 i e) = o (ix2 i e) + R i := by
  pointwise [pile]
  congr 1
  fin_cases i
  · exact h0
  · exact h1
  · exact h2
  · exact h3
  · exact h4
  · exact h5
  · exact h6
  · exact h7

/-- The scores' sum laid under each other, on top of what the state gives. -/
theorem stack (i : Fin 8) (e : Fin 256) :
    k0_pay31 (F := Ideal) (k0_pay13 (F := Ideal) q) k v (k0_pay15 (F := Ideal) b q s) (k0_pay19 (F := Ideal) v k0_pay16 (k0_pay17 (F := Ideal) q k) (k0_pay18 (F := Ideal) b)) (k0_pay20 (F := Ideal) (iota Kind.tc S8x1 32 [0] iota_S8x1_d0_w32) b (k0_pay13 (F := Ideal) q) k v) (k0_pay24 (F := Ideal) v (k0_pay21 (iota Kind.tc S8x1 32 [0] iota_S8x1_d0_w32)) (k0_pay22 (F := Ideal) (iota Kind.tc S8x1 32 [0] iota_S8x1_d0_w32) b (k0_pay13 (F := Ideal) q) k) k0_pay23) (k0_pay25 (F := Ideal) (iota Kind.tc S8x1 32 [0] iota_S8x1_d0_w32) b (k0_pay13 (F := Ideal) q) k v) (k0_pay26 (F := Ideal) (iota Kind.tc S8x1 32 [0] iota_S8x1_d0_w32) b (k0_pay13 (F := Ideal) q) k v) (k0_pay27 (F := Ideal) (iota Kind.tc S8x1 32 [0] iota_S8x1_d0_w32) b (k0_pay13 (F := Ideal) q) k v) (k0_pay28 (F := Ideal) (iota Kind.tc S8x1 32 [0] iota_S8x1_d0_w32) b (k0_pay13 (F := Ideal) q) k v) (k0_pay29 (iota Kind.tc S8x1 32 [0] iota_S8x1_d0_w32)) (k0_pay30 (F := Ideal) b) (ix2 i e)
      = k0_pay15 (F := Ideal) b q s (ix2 i e) + row b (k0_pay13 (F := Ideal) q) k v i e :=
  pile_apply (k0_pay15 (F := Ideal) b q s) _ _ _ _ _ _ _ (last b (k0_pay13 (F := Ideal) q) k v) (fun j => row b (k0_pay13 (F := Ideal) q) k v j e) e (row0 b q k v e) (row1 b _ k v e) (row2 b _ k v e)
    (row3 b _ k v e) (row4 b _ k v e) (row5 b _ k v e) (row6 b _ k v e) (row7 b (k0_pay13 (F := Ideal) q) k v e) i

theorem same1 : k0_pay46 (F := Ideal) (iota Kind.tc S8x1 32 [0] iota_S8x1_d0_w32) b (k0_pay33 (F := Ideal) q) k v (k0_pay35 (F := Ideal) b (k0_pay33 (F := Ideal) q) s) (k0_pay36 (F := Ideal) (iota Kind.tc S8x1 32 [0] iota_S8x1_d0_w32) b (k0_pay33 (F := Ideal) q) k v) (k0_pay39 (F := Ideal) v (k0_pay37 (iota Kind.tc S8x1 32 [0] iota_S8x1_d0_w32)) (k0_pay38 (F := Ideal) (iota Kind.tc S8x1 32 [0] iota_S8x1_d0_w32) b (k0_pay33 (F := Ideal) q) k)) (k0_pay40 (F := Ideal) (iota Kind.tc S8x1 32 [0] iota_S8x1_d0_w32) b (k0_pay33 (F := Ideal) q) k v) (k0_pay42 (F := Ideal) (k0_pay41 (F := Ideal) (iota Kind.tc S8x1 32 [0] iota_S8x1_d0_w32) b (k0_pay33 (F := Ideal) q) k v)) (k0_pay43 (F := Ideal) (iota Kind.tc S8x1 32 [0] iota_S8x1_d0_w32) b (k0_pay33 (F := Ideal) q) k v) (k0_pay44 (F := Ideal) (iota Kind.tc S8x1 32 [0] iota_S8x1_d0_w32) b (k0_pay33 (F := Ideal) q) k v) (k0_pay45 (iota Kind.tc S8x1 32 [0] iota_S8x1_d0_w32))
    = k0_pay31 (F := Ideal) (k0_pay13 (F := Ideal) q) k v (k0_pay15 (F := Ideal) b q s) (k0_pay19 (F := Ideal) v k0_pay16 (k0_pay17 (F := Ideal) q k) (k0_pay18 (F := Ideal) b)) (k0_pay20 (F := Ideal) (iota Kind.tc S8x1 32 [0] iota_S8x1_d0_w32) b (k0_pay13 (F := Ideal) q) k v) (k0_pay24 (F := Ideal) v (k0_pay21 (iota Kind.tc S8x1 32 [0] iota_S8x1_d0_w32)) (k0_pay22 (F := Ideal) (iota Kind.tc S8x1 32 [0] iota_S8x1_d0_w32) b (k0_pay13 (F := Ideal) q) k) k0_pay23) (k0_pay25 (F := Ideal) (iota Kind.tc S8x1 32 [0] iota_S8x1_d0_w32) b (k0_pay13 (F := Ideal) q) k v) (k0_pay26 (F := Ideal) (iota Kind.tc S8x1 32 [0] iota_S8x1_d0_w32) b (k0_pay13 (F := Ideal) q) k v) (k0_pay27 (F := Ideal) (iota Kind.tc S8x1 32 [0] iota_S8x1_d0_w32) b (k0_pay13 (F := Ideal) q) k v) (k0_pay28 (F := Ideal) (iota Kind.tc S8x1 32 [0] iota_S8x1_d0_w32) b (k0_pay13 (F := Ideal) q) k v) (k0_pay29 (iota Kind.tc S8x1 32 [0] iota_S8x1_d0_w32)) (k0_pay30 (F := Ideal) b) := rfl

theorem same2 : k0_pay67 (F := Ideal) (k0_pay49 (F := Ideal) q) k v (k0_pay51 (F := Ideal) b q s) (k0_pay55 (F := Ideal) v (k0_pay52 (iota Kind.tc S8x1 32 [0] iota_S8x1_d0_w32)) (k0_pay53 (F := Ideal) q k) (k0_pay54 (F := Ideal) (iota Kind.tc S8x1 32 [0] iota_S8x1_d0_w32) b)) (k0_pay56 (F := Ideal) (iota Kind.tc S8x1 32 [0] iota_S8x1_d0_w32) b (k0_pay49 (F := Ideal) q) k v) (k0_pay60 (F := Ideal) v (k0_pay57 (iota Kind.tc S8x1 32 [0] iota_S8x1_d0_w32)) (k0_pay58 (F := Ideal) (iota Kind.tc S8x1 32 [0] iota_S8x1_d0_w32) b (k0_pay49 (F := Ideal) q) k) k0_pay59) (k0_pay61 (F := Ideal) (iota Kind.tc S8x1 32 [0] iota_S8x1_d0_w32) b (k0_pay49 (F := Ideal) q) k v) (k0_pay62 (F := Ideal) (iota Kind.tc S8x1 32 [0] iota_S8x1_d0_w32) b (k0_pay49 (F := Ideal) q) k v) (k0_pay63 (F := Ideal) (iota Kind.tc S8x1 32 [0] iota_S8x1_d0_w32) b (k0_pay49 (F := Ideal) q) k v) (k0_pay64 (F := Ideal) (iota Kind.tc S8x1 32 [0] iota_S8x1_d0_w32) b (k0_pay49 (F := Ideal) q) k v) (k0_pay65 (iota Kind.tc S8x1 32 [0] iota_S8x1_d0_w32)) (k0_pay66 (F := Ideal) b)
    = k0_pay31 (F := Ideal) (k0_pay13 (F := Ideal) q) k v (k0_pay15 (F := Ideal) b q s) (k0_pay19 (F := Ideal) v k0_pay16 (k0_pay17 (F := Ideal) q k) (k0_pay18 (F := Ideal) b)) (k0_pay20 (F := Ideal) (iota Kind.tc S8x1 32 [0] iota_S8x1_d0_w32) b (k0_pay13 (F := Ideal) q) k v) (k0_pay24 (F := Ideal) v (k0_pay21 (iota Kind.tc S8x1 32 [0] iota_S8x1_d0_w32)) (k0_pay22 (F := Ideal) (iota Kind.tc S8x1 32 [0] iota_S8x1_d0_w32) b (k0_pay13 (F := Ideal) q) k) k0_pay23) (k0_pay25 (F := Ideal) (iota Kind.tc S8x1 32 [0] iota_S8x1_d0_w32) b (k0_pay13 (F := Ideal) q) k v) (k0_pay26 (F := Ideal) (iota Kind.tc S8x1 32 [0] iota_S8x1_d0_w32) b (k0_pay13 (F := Ideal) q) k v) (k0_pay27 (F := Ideal) (iota Kind.tc S8x1 32 [0] iota_S8x1_d0_w32) b (k0_pay13 (F := Ideal) q) k v) (k0_pay28 (F := Ideal) (iota Kind.tc S8x1 32 [0] iota_S8x1_d0_w32) b (k0_pay13 (F := Ideal) q) k v) (k0_pay29 (iota Kind.tc S8x1 32 [0] iota_S8x1_d0_w32)) (k0_pay30 (F := Ideal) b) := rfl

theorem same3 : k0_pay82 (F := Ideal) (iota Kind.tc S8x1 32 [0] iota_S8x1_d0_w32) b (k0_pay69 (F := Ideal) q) k v (k0_pay71 (F := Ideal) b (k0_pay69 (F := Ideal) q) s) (k0_pay72 (F := Ideal) (iota Kind.tc S8x1 32 [0] iota_S8x1_d0_w32) b (k0_pay69 (F := Ideal) q) k v) (k0_pay75 (F := Ideal) v (k0_pay73 (iota Kind.tc S8x1 32 [0] iota_S8x1_d0_w32)) (k0_pay74 (F := Ideal) (iota Kind.tc S8x1 32 [0] iota_S8x1_d0_w32) b (k0_pay69 (F := Ideal) q) k)) (k0_pay76 (F := Ideal) (iota Kind.tc S8x1 32 [0] iota_S8x1_d0_w32) b (k0_pay69 (F := Ideal) q) k v) (k0_pay78 (F := Ideal) (k0_pay77 (F := Ideal) (iota Kind.tc S8x1 32 [0] iota_S8x1_d0_w32) b (k0_pay69 (F := Ideal) q) k v)) (k0_pay79 (F := Ideal) (iota Kind.tc S8x1 32 [0] iota_S8x1_d0_w32) b (k0_pay69 (F := Ideal) q) k v) (k0_pay80 (F := Ideal) (iota Kind.tc S8x1 32 [0] iota_S8x1_d0_w32) b (k0_pay69 (F := Ideal) q) k v) (k0_pay81 (iota Kind.tc S8x1 32 [0] iota_S8x1_d0_w32))
    = k0_pay31 (F := Ideal) (k0_pay13 (F := Ideal) q) k v (k0_pay15 (F := Ideal) b q s) (k0_pay19 (F := Ideal) v k0_pay16 (k0_pay17 (F := Ideal) q k) (k0_pay18 (F := Ideal) b)) (k0_pay20 (F := Ideal) (iota Kind.tc S8x1 32 [0] iota_S8x1_d0_w32) b (k0_pay13 (F := Ideal) q) k v) (k0_pay24 (F := Ideal) v (k0_pay21 (iota Kind.tc S8x1 32 [0] iota_S8x1_d0_w32)) (k0_pay22 (F := Ideal) (iota Kind.tc S8x1 32 [0] iota_S8x1_d0_w32) b (k0_pay13 (F := Ideal) q) k) k0_pay23) (k0_pay25 (F := Ideal) (iota Kind.tc S8x1 32 [0] iota_S8x1_d0_w32) b (k0_pay13 (F := Ideal) q) k v) (k0_pay26 (F := Ideal) (iota Kind.tc S8x1 32 [0] iota_S8x1_d0_w32) b (k0_pay13 (F := Ideal) q) k v) (k0_pay27 (F := Ideal) (iota Kind.tc S8x1 32 [0] iota_S8x1_d0_w32) b (k0_pay13 (F := Ideal) q) k v) (k0_pay28 (F := Ideal) (iota Kind.tc S8x1 32 [0] iota_S8x1_d0_w32) b (k0_pay13 (F := Ideal) q) k v) (k0_pay29 (iota Kind.tc S8x1 32 [0] iota_S8x1_d0_w32)) (k0_pay30 (F := Ideal) b) := rfl

/-- The running sum of the gates' logarithms as the kernel adds it up, one token after the other. -/
def cums (a : FVec Ideal S8x16 .f32) (w : FVec Ideal S16x512 .bf16) (g : FVec Ideal S1x512 .f32) : FVec Ideal S8x512 .f32 :=
  k0_pay12 (F := Ideal) k0_pay10 (k0_pay11 (F := Ideal) a w g) 4#32

theorem cum0 (a : FVec Ideal S8x16 .f32) (w : FVec Ideal S16x512 .bf16) (g : FVec Ideal S1x512 .f32) (c : Fin 512) :
    cums a w g (ix2 0 c)
      = ∑ j : Fin 8, if j ≤ 0 then gate (∑ x : Fin 16, a (ix2 j x) * w (ix2 x c) + g (ix2 0 c)) else 0 := by
  have hy : ∀ j : Fin 8, Ideal.div (min (∑ x : Fin 16, a (ix2 j x) * w (ix2 x c) + g (ix2 0 c)) 0
      - Ideal.log1p (Ideal.exp (0 - FloatOps.absf (F := Ideal) (φ := .f32) (∑ x : Fin 16, a (ix2 j x) * w (ix2 x c) + g (ix2 0 c)))))
      (Ideal.ofBits FTy.f32 1098907648#32) = gate (∑ x : Fin 16, a (ix2 j x) * w (ix2 x c) + g (ix2 0 c)) := by
    intro j; rw [zero_sub]; rfl
  pointwise [cums, k0_pay12, k0_pay10, k0_pay11]
  simp only [hy]
  generalize (fun j : Fin 8 => gate (∑ x : Fin 16, a (ix2 j x) * w (ix2 x c) + g (ix2 0 c))) = y
  rw [Fin.sum_univ_eight]
  simp [Scalar.select, IntOp.cmpi, IntOp.andi]
  try abel

theorem cum1 (a : FVec Ideal S8x16 .f32) (w : FVec Ideal S16x512 .bf16) (g : FVec Ideal S1x512 .f32) (c : Fin 512) :
    cums a w g (ix2 1 c)
      = ∑ j : Fin 8, if j ≤ 1 then gate (∑ x : Fin 16, a (ix2 j x) * w (ix2 x c) + g (ix2 0 c)) else 0 := by
  have hy : ∀ j : Fin 8, Ideal.div (min (∑ x : Fin 16, a (ix2 j x) * w (ix2 x c) + g (ix2 0 c)) 0
      - Ideal.log1p (Ideal.exp (0 - FloatOps.absf (F := Ideal) (φ := .f32) (∑ x : Fin 16, a (ix2 j x) * w (ix2 x c) + g (ix2 0 c)))))
      (Ideal.ofBits FTy.f32 1098907648#32) = gate (∑ x : Fin 16, a (ix2 j x) * w (ix2 x c) + g (ix2 0 c)) := by
    intro j; rw [zero_sub]; rfl
  pointwise [cums, k0_pay12, k0_pay10, k0_pay11]
  simp only [hy]
  generalize (fun j : Fin 8 => gate (∑ x : Fin 16, a (ix2 j x) * w (ix2 x c) + g (ix2 0 c))) = y
  rw [Fin.sum_univ_eight]
  simp [Scalar.select, IntOp.cmpi, IntOp.andi]
  try abel

theorem cum2 (a : FVec Ideal S8x16 .f32) (w : FVec Ideal S16x512 .bf16) (g : FVec Ideal S1x512 .f32) (c : Fin 512) :
    cums a w g (ix2 2 c)
      = ∑ j : Fin 8, if j ≤ 2 then gate (∑ x : Fin 16, a (ix2 j x) * w (ix2 x c) + g (ix2 0 c)) else 0 := by
  have hy : ∀ j : Fin 8, Ideal.div (min (∑ x : Fin 16, a (ix2 j x) * w (ix2 x c) + g (ix2 0 c)) 0
      - Ideal.log1p (Ideal.exp (0 - FloatOps.absf (F := Ideal) (φ := .f32) (∑ x : Fin 16, a (ix2 j x) * w (ix2 x c) + g (ix2 0 c)))))
      (Ideal.ofBits FTy.f32 1098907648#32) = gate (∑ x : Fin 16, a (ix2 j x) * w (ix2 x c) + g (ix2 0 c)) := by
    intro j; rw [zero_sub]; rfl
  pointwise [cums, k0_pay12, k0_pay10, k0_pay11]
  simp only [hy]
  generalize (fun j : Fin 8 => gate (∑ x : Fin 16, a (ix2 j x) * w (ix2 x c) + g (ix2 0 c))) = y
  rw [Fin.sum_univ_eight]
  simp [Scalar.select, IntOp.cmpi, IntOp.andi]
  try abel

theorem cum3 (a : FVec Ideal S8x16 .f32) (w : FVec Ideal S16x512 .bf16) (g : FVec Ideal S1x512 .f32) (c : Fin 512) :
    cums a w g (ix2 3 c)
      = ∑ j : Fin 8, if j ≤ 3 then gate (∑ x : Fin 16, a (ix2 j x) * w (ix2 x c) + g (ix2 0 c)) else 0 := by
  have hy : ∀ j : Fin 8, Ideal.div (min (∑ x : Fin 16, a (ix2 j x) * w (ix2 x c) + g (ix2 0 c)) 0
      - Ideal.log1p (Ideal.exp (0 - FloatOps.absf (F := Ideal) (φ := .f32) (∑ x : Fin 16, a (ix2 j x) * w (ix2 x c) + g (ix2 0 c)))))
      (Ideal.ofBits FTy.f32 1098907648#32) = gate (∑ x : Fin 16, a (ix2 j x) * w (ix2 x c) + g (ix2 0 c)) := by
    intro j; rw [zero_sub]; rfl
  pointwise [cums, k0_pay12, k0_pay10, k0_pay11]
  simp only [hy]
  generalize (fun j : Fin 8 => gate (∑ x : Fin 16, a (ix2 j x) * w (ix2 x c) + g (ix2 0 c))) = y
  rw [Fin.sum_univ_eight]
  simp [Scalar.select, IntOp.cmpi, IntOp.andi]
  try abel

theorem cum4 (a : FVec Ideal S8x16 .f32) (w : FVec Ideal S16x512 .bf16) (g : FVec Ideal S1x512 .f32) (c : Fin 512) :
    cums a w g (ix2 4 c)
      = ∑ j : Fin 8, if j ≤ 4 then gate (∑ x : Fin 16, a (ix2 j x) * w (ix2 x c) + g (ix2 0 c)) else 0 := by
  have hy : ∀ j : Fin 8, Ideal.div (min (∑ x : Fin 16, a (ix2 j x) * w (ix2 x c) + g (ix2 0 c)) 0
      - Ideal.log1p (Ideal.exp (0 - FloatOps.absf (F := Ideal) (φ := .f32) (∑ x : Fin 16, a (ix2 j x) * w (ix2 x c) + g (ix2 0 c)))))
      (Ideal.ofBits FTy.f32 1098907648#32) = gate (∑ x : Fin 16, a (ix2 j x) * w (ix2 x c) + g (ix2 0 c)) := by
    intro j; rw [zero_sub]; rfl
  pointwise [cums, k0_pay12, k0_pay10, k0_pay11]
  simp only [hy]
  generalize (fun j : Fin 8 => gate (∑ x : Fin 16, a (ix2 j x) * w (ix2 x c) + g (ix2 0 c))) = y
  rw [Fin.sum_univ_eight]
  simp [Scalar.select, IntOp.cmpi, IntOp.andi]
  try abel

theorem cum5 (a : FVec Ideal S8x16 .f32) (w : FVec Ideal S16x512 .bf16) (g : FVec Ideal S1x512 .f32) (c : Fin 512) :
    cums a w g (ix2 5 c)
      = ∑ j : Fin 8, if j ≤ 5 then gate (∑ x : Fin 16, a (ix2 j x) * w (ix2 x c) + g (ix2 0 c)) else 0 := by
  have hy : ∀ j : Fin 8, Ideal.div (min (∑ x : Fin 16, a (ix2 j x) * w (ix2 x c) + g (ix2 0 c)) 0
      - Ideal.log1p (Ideal.exp (0 - FloatOps.absf (F := Ideal) (φ := .f32) (∑ x : Fin 16, a (ix2 j x) * w (ix2 x c) + g (ix2 0 c)))))
      (Ideal.ofBits FTy.f32 1098907648#32) = gate (∑ x : Fin 16, a (ix2 j x) * w (ix2 x c) + g (ix2 0 c)) := by
    intro j; rw [zero_sub]; rfl
  pointwise [cums, k0_pay12, k0_pay10, k0_pay11]
  simp only [hy]
  generalize (fun j : Fin 8 => gate (∑ x : Fin 16, a (ix2 j x) * w (ix2 x c) + g (ix2 0 c))) = y
  rw [Fin.sum_univ_eight]
  simp [Scalar.select, IntOp.cmpi, IntOp.andi]
  try abel

theorem cum6 (a : FVec Ideal S8x16 .f32) (w : FVec Ideal S16x512 .bf16) (g : FVec Ideal S1x512 .f32) (c : Fin 512) :
    cums a w g (ix2 6 c)
      = ∑ j : Fin 8, if j ≤ 6 then gate (∑ x : Fin 16, a (ix2 j x) * w (ix2 x c) + g (ix2 0 c)) else 0 := by
  have hy : ∀ j : Fin 8, Ideal.div (min (∑ x : Fin 16, a (ix2 j x) * w (ix2 x c) + g (ix2 0 c)) 0
      - Ideal.log1p (Ideal.exp (0 - FloatOps.absf (F := Ideal) (φ := .f32) (∑ x : Fin 16, a (ix2 j x) * w (ix2 x c) + g (ix2 0 c)))))
      (Ideal.ofBits FTy.f32 1098907648#32) = gate (∑ x : Fin 16, a (ix2 j x) * w (ix2 x c) + g (ix2 0 c)) := by
    intro j; rw [zero_sub]; rfl
  pointwise [cums, k0_pay12, k0_pay10, k0_pay11]
  simp only [hy]
  generalize (fun j : Fin 8 => gate (∑ x : Fin 16, a (ix2 j x) * w (ix2 x c) + g (ix2 0 c))) = y
  rw [Fin.sum_univ_eight]
  simp [Scalar.select, IntOp.cmpi, IntOp.andi]
  try abel

theorem cum7 (a : FVec Ideal S8x16 .f32) (w : FVec Ideal S16x512 .bf16) (g : FVec Ideal S1x512 .f32) (c : Fin 512) :
    cums a w g (ix2 7 c)
      = ∑ j : Fin 8, if j ≤ 7 then gate (∑ x : Fin 16, a (ix2 j x) * w (ix2 x c) + g (ix2 0 c)) else 0 := by
  have hy : ∀ j : Fin 8, Ideal.div (min (∑ x : Fin 16, a (ix2 j x) * w (ix2 x c) + g (ix2 0 c)) 0
      - Ideal.log1p (Ideal.exp (0 - FloatOps.absf (F := Ideal) (φ := .f32) (∑ x : Fin 16, a (ix2 j x) * w (ix2 x c) + g (ix2 0 c)))))
      (Ideal.ofBits FTy.f32 1098907648#32) = gate (∑ x : Fin 16, a (ix2 j x) * w (ix2 x c) + g (ix2 0 c)) := by
    intro j; rw [zero_sub]; rfl
  pointwise [cums, k0_pay12, k0_pay10, k0_pay11]
  simp only [hy]
  generalize (fun j : Fin 8 => gate (∑ x : Fin 16, a (ix2 j x) * w (ix2 x c) + g (ix2 0 c))) = y
  rw [Fin.sum_univ_eight]
  simp [Scalar.select, IntOp.cmpi, IntOp.andi]
  try abel

theorem k_cum (a : FVec Ideal S8x16 .f32) (w : FVec Ideal S16x512 .bf16) (g : FVec Ideal S1x512 .f32) (i : Fin 8) (c : Fin 512) :
    cums a w g (ix2 i c)
      = ∑ j : Fin 8, if j ≤ i then gate (∑ x : Fin 16, a (ix2 j x) * w (ix2 x c) + g (ix2 0 c)) else 0 := by
  fin_cases i
  · exact cum0 a w g c
  · exact cum1 a w g c
  · exact cum2 a w g c
  · exact cum3 a w g c
  · exact cum4 a w g c
  · exact cum5 a w g c
  · exact cum6 a w g c
  · exact cum7 a w g c

theorem sel_le (i j : Fin 8) (x y : EReal) : Scalar.select (IntOp.cmpi CmpIPredicate.sle (BitVec.ofNat 32 (j : ℕ)) (BitVec.ofNat 32 (i : ℕ))) x y
    = if j ≤ i then x else y := by
  have e : ∀ i j : Fin 8, IntOp.cmpi CmpIPredicate.sle (BitVec.ofNat 32 (j : ℕ)) (BitVec.ofNat 32 (i : ℕ)) = if j ≤ i then 1#1 else 0#1 := by decide
  rw [e]
  split
  · rfl
  · rfl

theorem k_out (i : Fin 8) (e : Fin 256) :
    k0_pay31 (F := Ideal) (k0_pay13 (F := Ideal) q) k v (k0_pay15 (F := Ideal) b q s) (k0_pay19 (F := Ideal) v k0_pay16 (k0_pay17 (F := Ideal) q k) (k0_pay18 (F := Ideal) b)) (k0_pay20 (F := Ideal) (iota Kind.tc S8x1 32 [0] iota_S8x1_d0_w32) b (k0_pay13 (F := Ideal) q) k v) (k0_pay24 (F := Ideal) v (k0_pay21 (iota Kind.tc S8x1 32 [0] iota_S8x1_d0_w32)) (k0_pay22 (F := Ideal) (iota Kind.tc S8x1 32 [0] iota_S8x1_d0_w32) b (k0_pay13 (F := Ideal) q) k) k0_pay23) (k0_pay25 (F := Ideal) (iota Kind.tc S8x1 32 [0] iota_S8x1_d0_w32) b (k0_pay13 (F := Ideal) q) k v) (k0_pay26 (F := Ideal) (iota Kind.tc S8x1 32 [0] iota_S8x1_d0_w32) b (k0_pay13 (F := Ideal) q) k v) (k0_pay27 (F := Ideal) (iota Kind.tc S8x1 32 [0] iota_S8x1_d0_w32) b (k0_pay13 (F := Ideal) q) k v) (k0_pay28 (F := Ideal) (iota Kind.tc S8x1 32 [0] iota_S8x1_d0_w32) b (k0_pay13 (F := Ideal) q) k v) (k0_pay29 (iota Kind.tc S8x1 32 [0] iota_S8x1_d0_w32)) (k0_pay30 (F := Ideal) b) (ix2 i e)
      = headOut (fun i d => b (ix2 i d)) (fun i d => q (ix2 i d) * Ideal.ofBits FTy.f32 1035273459#32) (fun i d => k (ix2 i d))
          (fun i e => v (ix2 i e)) (fun d e => s (ix3 0 e d)) i e := by
  have hs : k0_pay15 (F := Ideal) b q s (ix2 i e)
      = ∑ d : Fin 128, q (ix2 i d) * Ideal.ofBits FTy.f32 1035273459#32 * Ideal.exp (b (ix2 i d)) * s (ix3 0 e d) := by
    pointwise [k0_pay15, k0_pay13, k0_pay14]
  have hq : ∀ d : Fin 128, k0_pay13 (F := Ideal) q (ix2 i d) = q (ix2 i d) * Ideal.ofBits FTy.f32 1035273459#32 := by
    intro d
    pointwise [k0_pay13]
  rw [stack, hs]
  unfold headOut row
  refine congrArg (_ + ·) (Finset.sum_congr rfl fun j _ => ?_)
  simp only [sel_le, hq]
  by_cases c : j ≤ i
  · simp only [if_pos c]
  · simp only [if_neg c]

theorem k_norm (G : FVec Ideal S8x1024 .f32) (O : FVec Ideal S8x256 .f32) (w : FVec Ideal S1x256 .f32) (i : Fin 8) (e : Fin 256) :
    k0_pay1 (F := Ideal) (k0_pay85 (F := Ideal) G) O w (ix2 i e)
      = normed (fun e => O (ix2 i e)) (w (ix2 0 e)) (G (ix2 i ⟨768 + e.val, by omega⟩)) e := by
  unfold normed
  rw [← zero_sub]
  pointwise [k0_pay1, k0_pay85]

theorem k_norm2 (G : FVec Ideal S8x1024 .f32) (O : FVec Ideal S8x256 .f32) (w : FVec Ideal S1x256 .f32) (i : Fin 8) (e : Fin 256) :
    k0_pay88 (F := Ideal) (k0_pay85 (F := Ideal) G) O w (ix2 i e)
      = normed (fun e => O (ix2 i e)) (w (ix2 0 e)) (G (ix2 i ⟨512 + e.val, by omega⟩)) e := by
  unfold normed
  rw [← zero_sub]
  pointwise [k0_pay88, k0_pay85]

theorem k_norm1 (G : FVec Ideal S8x1024 .f32) (O : FVec Ideal S8x256 .f32) (w : FVec Ideal S1x256 .f32) (i : Fin 8) (e : Fin 256) :
    k0_pay87 (F := Ideal) (k0_pay85 (F := Ideal) G) O w (ix2 i e)
      = normed (fun e => O (ix2 i e)) (w (ix2 0 e)) (G (ix2 i ⟨256 + e.val, by omega⟩)) e := by
  unfold normed
  rw [← zero_sub]
  pointwise [k0_pay87, k0_pay85]

theorem k_norm0 (G : FVec Ideal S8x1024 .f32) (O : FVec Ideal S8x256 .f32) (w : FVec Ideal S1x256 .f32) (i : Fin 8) (e : Fin 256) :
    k0_pay86 (F := Ideal) G O w (ix2 i e)
      = normed (fun e => O (ix2 i e)) (w (ix2 0 e)) (G (ix2 i ⟨e.val, by omega⟩)) e := by
  unfold normed
  rw [← zero_sub]
  pointwise [k0_pay86, k0_pay85]

theorem k_state (d : Fin 128) (e : Fin 256) : k0_pay2 (F := Ideal) (k0_pay32 (F := Ideal) b k v (k0_pay14 (F := Ideal) s)) (ix4 0 0 d e)
    = headState (fun i d => b (ix2 i d)) (fun i d => k (ix2 i d)) (fun i e => v (ix2 i e)) (fun d e => s (ix3 0 e d)) d e := by
  unfold headState
  rw [mul_comm, Finset.sum_congr rfl fun j _ => mul_comm _ _]
  pointwise [k0_pay2, k0_pay32, k0_pay14]

theorem state1 : k0_pay3 (F := Ideal) (k0_pay48 (F := Ideal) b k v (k0_pay34 (F := Ideal) s) (k0_pay47 (F := Ideal) b))
    = k0_pay2 (F := Ideal) (k0_pay32 (F := Ideal) b k v (k0_pay14 (F := Ideal) s)) := rfl

theorem state2 : k0_pay4 (F := Ideal) (k0_pay68 (F := Ideal) b k v (k0_pay50 (F := Ideal) s))
    = k0_pay2 (F := Ideal) (k0_pay32 (F := Ideal) b k v (k0_pay14 (F := Ideal) s)) := rfl

theorem state3 : k0_pay5 (F := Ideal) (k0_pay84 (F := Ideal) b k v (k0_pay70 (F := Ideal) s) (k0_pay83 (F := Ideal) b))
    = k0_pay2 (F := Ideal) (k0_pay32 (F := Ideal) b k v (k0_pay14 (F := Ideal) s)) := rfl

end Cert.Gla

end
-- ==== Proof.Gla.lean ====
/-
  The gated linear attention over a sample's eight tokens: the call's output and the state it leaves, each the
  reference's. Four heads, the payloads of each read through one head's lemmas; what the call keeps between its
  stores and loads is read back first.
-/
module

public import proofs.«01_k».proof.Defs
public import proofs.«01_k».proof.Proof.Gen.KernelIdeal.Frame
public import proofs.«01_k».proof.Proof.Gen.ReferenceIdeal.Read
public import proofs.«01_k».proof.Proof.GlaRef
public import proofs.«01_k».proof.Proof.GlaHead
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Gla

open Cert.KernelIdeal Cert.KernelIdeal.Gen

variable (m : (ℓ : Loc nD τ sig) → Buf (Elt Ideal) ℓ)

/-- Where each window's block sits at grid point `t`, the sequence. -/
theorem idx : ∀ t : Fin cfg0.N, win0_0.index t = ![t.val, 0] ∧ win0_1.index t = ![t.val, 1]
    ∧ win0_2.index t = ![t.val, 1] ∧ win0_3.index t = ![t.val, 2] ∧ win0_4.index t = ![t.val, 56] ∧ win0_5.index t = ![0, 0]
    ∧ win0_6.index t = ![0, 0] ∧ win0_7.index t = ![0, 0] ∧ win0_8.index t = ![t.val, 0, 0, 0]
    ∧ win0_9.index t = ![t.val, 0] ∧ win0_10.index t = ![t.val, 0, 0, 0] :=
  (by decide +kernel : ∀ t : Fin grid0.N, _)

/-- A load of what the last store wrote, the two places being the same numbers. -/
theorem read_at {sg : RefSig} {κ : Kind} {sp : Space} {s : Shape} {e : EltTy} (v : View sg κ sp s e)
    (off off' sz : Fin s.rank → ℕ) (inb : ∀ a, off a + sz a ≤ s.size a) (inb' : ∀ a, off' a + sz a ≤ s.size a)
    (w : (Rect.unit off sz inb).shape.Idx → Elt Ideal e) (L : List (View.Piece (Elt Ideal) s e)) (h : off = off') :
    v.readCov (⟨Rect.unit off sz inb, w⟩ :: L) (Rect.unit off' sz inb').toLoadRect = w := by
  subst h
  exact View.readCov_cons_toLoadRect v _ w L

/-! The blocks read at an index, as the arguments. -/

theorem at_q (c : Dev nD) (t : Fin cfg0.N) (i : Fin 8) (j : Fin 512) (R : Fin 256) (hR : R.val = t.val * 8 + i.val) :
    iblk m c 0 t (ix2 i j) = m ((c : Thread nD τ).loc main_arg0) (ix2 R ⟨j.val, by omega⟩) := by
  blk_point [iblk, V, idx t]

theorem at_k (c : Dev nD) (t : Fin cfg0.N) (i : Fin 8) (j : Fin 512) (R : Fin 256) (hR : R.val = t.val * 8 + i.val) :
    iblk m c 1 t (ix2 i j) = m ((c : Thread nD τ).loc main_arg0) (ix2 R ⟨512 + j.val, by omega⟩) := by
  blk_point [iblk, V, idx t]

theorem at_v (c : Dev nD) (t : Fin cfg0.N) (i : Fin 8) (j : Fin 1024) (R : Fin 256) (hR : R.val = t.val * 8 + i.val) :
    X0_2 m c t (ix2 i j) = m ((c : Thread nD τ).loc main_arg0) (ix2 R ⟨1024 + j.val, by omega⟩) := by
  unfold X0_2 Pipeline.Window.fill
  rw [dif_pos (moved0_2 t (ix2 i j))]
  blk_point [iblk, V, idx t]

theorem at_g (c : Dev nD) (t : Fin cfg0.N) (i : Fin 8) (j : Fin 1024) (R : Fin 256) (hR : R.val = t.val * 8 + i.val) :
    X0_3 m c t (ix2 i j) = m ((c : Thread nD τ).loc main_arg0) (ix2 R ⟨2048 + j.val, by omega⟩) := by
  unfold X0_3 Pipeline.Window.fill
  rw [dif_pos (moved0_3 t (ix2 i j))]
  blk_point [iblk, V, idx t]

theorem at_small (c : Dev nD) (t : Fin cfg0.N) (i : Fin 8) (j : Fin 128) (R : Fin 256) (hR : R.val = t.val * 8 + i.val) :
    iblk m c 4 t (ix2 i j) = m ((c : Thread nD τ).loc main_arg0) (ix2 R ⟨7168 + j.val, by omega⟩) := by
  blk_point [iblk, V, idx t]

theorem at_up (c : Dev nD) (t : Fin cfg0.N) (x : Fin 16) (j : Fin 512) :
    iblk m c 5 t (ix2 x j) = m ((c : Thread nD τ).loc main_arg1) (ix2 x j) := by
  have e : ∀ y, V m c main_v0 y = m ((c : Thread nD τ).loc main_arg1) y := by
    intro y
    unfold V
    entry_read
    pointwise
  blk_simp [iblk]
  rw [e]
  blk_ext [idx t]

theorem at_bias (c : Dev nD) (t : Fin cfg0.N) (j : Fin 512) :
    iblk m c 6 t (ix2 0 j) = m ((c : Thread nD τ).loc main_arg2) (ix1 j) := by
  have e : ∀ y : S1x512.Idx, V m c main_v1 y = m ((c : Thread nD τ).loc main_arg2) (ix1 (y 1)) := by
    intro y
    unfold V
    entry_read
    pointwise
  blk_simp [iblk]
  rw [e]
  blk_ext [idx t]

theorem at_scale (c : Dev nD) (t : Fin cfg0.N) (j : Fin 256) :
    iblk m c 7 t (ix2 0 j) = m ((c : Thread nD τ).loc main_arg3) (ix1 j) := by
  have e : ∀ y : S1x256.Idx, V m c main_v2 y = m ((c : Thread nD τ).loc main_arg3) (ix1 (y 1)) := by
    intro y
    unfold V
    entry_read
    pointwise
  blk_simp [iblk]
  rw [e]
  blk_ext [idx t]

theorem at_state (c : Dev nD) (t : Fin cfg0.N) (h : Fin 4) (d : Fin 128) (e : Fin 256) (T : Fin 32) (hT : T.val = t.val) :
    iblk m c 8 t (ix4 0 h d e) = m ((c : Thread nD τ).loc main_arg4) (ix4 T h d e) := by
  blk_point [iblk, V, idx t]

section
open Cert.ReferenceIdeal.Read

/-- The kernel's running sum of the gates is the reference's. -/
theorem b_eq (c : Dev nD) (t : Fin cfg0.N) (T : Fin 32) (hT : T.val = t.val) (a : FVec Ideal S8x16 .f32)
    (ha : ∀ (i : Fin 8) (x : Fin 16), a (ix2 i x) = iblk m c 4 t (ix2 i ⟨64 + x.val, by omega⟩)) (h : Fin 4) (i : Fin 8) (d : Fin 128)
    (D : Fin 512) (hD : D.val = h.val * 128 + d.val) : cums a (iblk m c 5 t) (iblk m c 6 t) (ix2 i D)
      = val_main_v26 (F := Ideal) (m ((c : Thread nD τ).loc main_arg0)) (m ((c : Thread nD τ).loc main_arg1)) (m ((c : Thread nD τ).loc main_arg2)) (ix4 T h i d) := by
  rw [k_cum, ref_cum]
  refine Finset.sum_congr rfl fun j _ => ?_
  rw [ref_gate _ _ _ T h j d ⟨T.val * 8 + j.val, by omega⟩ D rfl hD]
  simp only [ha, at_small m c t j _ ⟨T.val * 8 + j.val, by omega⟩ (by dsimp only; omega), at_up, at_bias]
  congr 4
  funext x
  congr 3
  apply Fin.ext
  dsimp only
  omega

/-- One head's output is the reference's, its blocks being the head's columns. -/
theorem head_eq (c : Dev nD) (T : Fin 32) (h : Fin 4) (b q k : FVec Ideal S8x128 .f32) (v : FVec Ideal S8x256 .f32)
    (s : FVec Ideal S1x256x128 .f32) (hb : ∀ i d, b (ix2 i d) = val_main_v26 (F := Ideal) (m ((c : Thread nD τ).loc main_arg0)) (m ((c : Thread nD τ).loc main_arg1)) (m ((c : Thread nD τ).loc main_arg2)) (ix4 T h i d))
    (hq : ∀ i d, q (ix2 i d) * Ideal.ofBits FTy.f32 1035273459#32 = val_main_v19 (F := Ideal) (m ((c : Thread nD τ).loc main_arg0)) (ix4 T h i d))
    (hk : ∀ i d, k (ix2 i d) = val_main_v20 (F := Ideal) (m ((c : Thread nD τ).loc main_arg0)) (ix4 T h i d))
    (hv : ∀ i e, v (ix2 i e) = val_main_v21 (F := Ideal) (m ((c : Thread nD τ).loc main_arg0)) (ix4 T h i e))
    (hs : ∀ d e, s (ix3 0 e d) = m ((c : Thread nD τ).loc main_arg4) (ix4 T h d e)) (i : Fin 8) (e : Fin 256) :
    headOut (fun i d => b (ix2 i d)) (fun i d => q (ix2 i d) * Ideal.ofBits FTy.f32 1035273459#32) (fun i d => k (ix2 i d))
        (fun i e => v (ix2 i e)) (fun d e => s (ix3 0 e d)) i e
      = val_main_v58 (F := Ideal) (m ((c : Thread nD τ).loc main_arg0)) (m ((c : Thread nD τ).loc main_arg1)) (m ((c : Thread nD τ).loc main_arg2)) (m ((c : Thread nD τ).loc main_arg4)) (ix4 T h i e) := by
  rw [ref_out]
  simp only [hb, hq, hk, hv, hs]

/-- One head's state after the tokens is the reference's. -/
theorem state_eq (c : Dev nD) (T : Fin 32) (h : Fin 4) (b k : FVec Ideal S8x128 .f32) (v : FVec Ideal S8x256 .f32)
    (s : FVec Ideal S1x256x128 .f32) (hb : ∀ i d, b (ix2 i d) = val_main_v26 (F := Ideal) (m ((c : Thread nD τ).loc main_arg0)) (m ((c : Thread nD τ).loc main_arg1)) (m ((c : Thread nD τ).loc main_arg2)) (ix4 T h i d))
    (hk : ∀ i d, k (ix2 i d) = val_main_v20 (F := Ideal) (m ((c : Thread nD τ).loc main_arg0)) (ix4 T h i d))
    (hv : ∀ i e, v (ix2 i e) = val_main_v21 (F := Ideal) (m ((c : Thread nD τ).loc main_arg0)) (ix4 T h i e))
    (hs : ∀ d e, s (ix3 0 e d) = m ((c : Thread nD τ).loc main_arg4) (ix4 T h d e)) (d : Fin 128) (e : Fin 256) :
    headState (fun i d => b (ix2 i d)) (fun i d => k (ix2 i d)) (fun i e => v (ix2 i e)) (fun d e => s (ix3 0 e d)) d e
      = val_main_v57 (F := Ideal) (m ((c : Thread nD τ).loc main_arg0)) (m ((c : Thread nD τ).loc main_arg1)) (m ((c : Thread nD τ).loc main_arg2)) (m ((c : Thread nD τ).loc main_arg4)) (ix4 T h d e) := by
  rw [ref_state]
  simp only [hb, hk, hv, hs]

/-- A head's row normalised and gated is the reference's result there. -/
theorem out_eq (c : Dev nD) (t : Fin cfg0.N) (T : Fin 32) (hT : T.val = t.val) (h : Fin 4) (O : FVec Ideal S8x256 .f32)
    (i : Fin 8) (e : Fin 256) (hO : ∀ e, O (ix2 i e) = val_main_v58 (F := Ideal) (m ((c : Thread nD τ).loc main_arg0)) (m ((c : Thread nD τ).loc main_arg1)) (m ((c : Thread nD τ).loc main_arg2)) (m ((c : Thread nD τ).loc main_arg4)) (ix4 T h i e))
    (J D : Fin 1024) (R : Fin 256) (hR : R.val = t.val * 8 + i.val) (hJ : J.val = h.val * 256 + e.val) (hD : D.val = h.val * 256 + e.val) :
    normed (fun e => O (ix2 i e)) (iblk m c 7 t (ix2 0 e)) (X0_3 m c t (ix2 i J)) e
      = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 R D) := by
  rw [ref_result _ _ _ _ _ T h i e R D ⟨2048 + J.val, by omega⟩ (by omega) hD (by dsimp only; omega), at_scale,
    at_g m c t i J R hR]
  simp only [hO]

set_option maxHeartbeats 4000000 in
/-- What a point leaves in the output's block: the reference's rows of its sequence. -/
theorem point9 (c : Dev nD) (t : Fin cfg0.N) (T : Fin 32) (hT : T.val = t.val) (y : S8x1024.Idx) (R : Fin 256) (D : Fin 1024)
    (hR : R.val = t.val * 8 + (y 0).val) (hD : D.val = (y 1).val) :
    (outsAt0 m c t).1 y = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 R D) := by
  dsimp only [outsAt0]
  frame_out
  simp (discharger := decide) only [↓View.readCov_skip, ↓View.readCov_cons_toLoadRect, ↓View.readCov_fill, ↓read_at]
  canon_tiles x h
  · idx_vars x
    refine (k_norm _ _ _ _ _).trans (out_eq m c t T hT 3 _ _ _ (fun e => ?_) _ _ _ ?_ ?_ ?_)
    rotate_left
    · omega
    · dsimp only
      omega
    · omega
    rw [same3]
    have a0 : k0_off7 0 = 0 := by rw [k0_off7_eq]; rfl
    have a1 : k0_off7 1 = 384 := by rw [k0_off7_eq]; rfl
    have b0 : k0_off8 0 = 0 := by rw [k0_off8_eq]; rfl
    have b1 : k0_off8 1 = 768 := by rw [k0_off8_eq]; rfl
    refine (k_out _ _ _ _ _ _ e).trans (head_eq m c T 3 _ _ _ _ _ ?_ ?_ ?_ ?_ ?_ _ e)
    · intro j d
      rw [← b_eq m c t T hT (View.ld (iblk m c 4 t) (Rect.unit ![0, 64] ![8, 16] inb_S8x128_S8x16_0_64)) (by intro j x; pointwise)
        3 j d ⟨384 + d.val, by omega⟩ rfl]
      unfold cums
      pointwise
      simp only [a0, a1, Nat.zero_add, Fin.eta] <;> rfl
    · intro j d
      rw [ref_q _ T 3 j d ⟨T.val * 8 + j.val, by omega⟩ ⟨384 + d.val, by omega⟩ rfl rfl,
        ← at_q m c t j ⟨384 + d.val, by omega⟩ ⟨T.val * 8 + j.val, by omega⟩ (by dsimp only; omega)]
      pointwise
      simp only [a0, a1, Nat.zero_add, Fin.eta] <;> rfl
    · intro j d
      rw [ref_k _ T 3 j d ⟨T.val * 8 + j.val, by omega⟩ ⟨512 + (384 + d.val), by omega⟩ rfl rfl,
        ← at_k m c t j ⟨384 + d.val, by omega⟩ ⟨T.val * 8 + j.val, by omega⟩ (by dsimp only; omega)]
      pointwise
      simp only [a0, a1, Nat.zero_add, Fin.eta] <;> rfl
    · intro j e
      rw [ref_v _ T 3 j e ⟨T.val * 8 + j.val, by omega⟩ ⟨1024 + (768 + e.val), by omega⟩ rfl rfl,
        ← at_v m c t j ⟨768 + e.val, by omega⟩ ⟨T.val * 8 + j.val, by omega⟩ (by dsimp only; omega)]
      pointwise
      simp only [b0, b1, Nat.zero_add, Fin.eta] <;> rfl
    · intro d e
      rw [← at_state m c t 3 d e T hT]
      pointwise [k0_pay9]
  · idx_vars x
    refine (k_norm2 _ _ _ _ _).trans (out_eq m c t T hT 2 _ _ _ (fun e => ?_) _ _ _ ?_ ?_ ?_)
    rotate_left
    · omega
    · dsimp only
      omega
    · omega
    rw [same2]
    have a0 : k0_off5 0 = 0 := by rw [k0_off5_eq]; rfl
    have a1 : k0_off5 1 = 256 := by rw [k0_off5_eq]; rfl
    have b0 : k0_off6 0 = 0 := by rw [k0_off6_eq]; rfl
    have b1 : k0_off6 1 = 512 := by rw [k0_off6_eq]; rfl
    refine (k_out _ _ _ _ _ _ e).trans (head_eq m c T 2 _ _ _ _ _ ?_ ?_ ?_ ?_ ?_ _ e)
    · intro j d
      rw [← b_eq m c t T hT (View.ld (iblk m c 4 t) (Rect.unit ![0, 64] ![8, 16] inb_S8x128_S8x16_0_64)) (by intro j x; pointwise)
        2 j d ⟨256 + d.val, by omega⟩ rfl]
      unfold cums
      pointwise
      simp only [a0, a1, Nat.zero_add, Fin.eta] <;> rfl
    · intro j d
      rw [ref_q _ T 2 j d ⟨T.val * 8 + j.val, by omega⟩ ⟨256 + d.val, by omega⟩ rfl rfl,
        ← at_q m c t j ⟨256 + d.val, by omega⟩ ⟨T.val * 8 + j.val, by omega⟩ (by dsimp only; omega)]
      pointwise
      simp only [a0, a1, Nat.zero_add, Fin.eta] <;> rfl
    · intro j d
      rw [ref_k _ T 2 j d ⟨T.val * 8 + j.val, by omega⟩ ⟨512 + (256 + d.val), by omega⟩ rfl rfl,
        ← at_k m c t j ⟨256 + d.val, by omega⟩ ⟨T.val * 8 + j.val, by omega⟩ (by dsimp only; omega)]
      pointwise
      simp only [a0, a1, Nat.zero_add, Fin.eta] <;> rfl
    · intro j e
      rw [ref_v _ T 2 j e ⟨T.val * 8 + j.val, by omega⟩ ⟨1024 + (512 + e.val), by omega⟩ rfl rfl,
        ← at_v m c t j ⟨512 + e.val, by omega⟩ ⟨T.val * 8 + j.val, by omega⟩ (by dsimp only; omega)]
      pointwise
      simp only [b0, b1, Nat.zero_add, Fin.eta] <;> rfl
    · intro d e
      rw [← at_state m c t 2 d e T hT]
      pointwise [k0_pay8]
  · idx_vars x
    refine (k_norm1 _ _ _ _ _).trans (out_eq m c t T hT 1 _ _ _ (fun e => ?_) _ _ _ ?_ ?_ ?_)
    rotate_left
    · omega
    · dsimp only
      omega
    · omega
    rw [same1]
    have a0 : k0_off3 0 = 0 := by rw [k0_off3_eq]; rfl
    have a1 : k0_off3 1 = 128 := by rw [k0_off3_eq]; rfl
    have b0 : k0_off4 0 = 0 := by rw [k0_off4_eq]; rfl
    have b1 : k0_off4 1 = 256 := by rw [k0_off4_eq]; rfl
    refine (k_out _ _ _ _ _ _ e).trans (head_eq m c T 1 _ _ _ _ _ ?_ ?_ ?_ ?_ ?_ _ e)
    · intro j d
      rw [← b_eq m c t T hT (View.ld (iblk m c 4 t) (Rect.unit ![0, 64] ![8, 16] inb_S8x128_S8x16_0_64)) (by intro j x; pointwise)
        1 j d ⟨128 + d.val, by omega⟩ rfl]
      unfold cums
      pointwise
      simp only [a0, a1, Nat.zero_add, Fin.eta] <;> rfl
    · intro j d
      rw [ref_q _ T 1 j d ⟨T.val * 8 + j.val, by omega⟩ ⟨128 + d.val, by omega⟩ rfl rfl,
        ← at_q m c t j ⟨128 + d.val, by omega⟩ ⟨T.val * 8 + j.val, by omega⟩ (by dsimp only; omega)]
      pointwise
      simp only [a0, a1, Nat.zero_add, Fin.eta] <;> rfl
    · intro j d
      rw [ref_k _ T 1 j d ⟨T.val * 8 + j.val, by omega⟩ ⟨512 + (128 + d.val), by omega⟩ rfl rfl,
        ← at_k m c t j ⟨128 + d.val, by omega⟩ ⟨T.val * 8 + j.val, by omega⟩ (by dsimp only; omega)]
      pointwise
      simp only [a0, a1, Nat.zero_add, Fin.eta] <;> rfl
    · intro j e
      rw [ref_v _ T 1 j e ⟨T.val * 8 + j.val, by omega⟩ ⟨1024 + (256 + e.val), by omega⟩ rfl rfl,
        ← at_v m c t j ⟨256 + e.val, by omega⟩ ⟨T.val * 8 + j.val, by omega⟩ (by dsimp only; omega)]
      pointwise
      simp only [b0, b1, Nat.zero_add, Fin.eta] <;> rfl
    · intro d e
      rw [← at_state m c t 1 d e T hT]
      pointwise [k0_pay7]
  · idx_vars x
    refine (k_norm0 _ _ _ _ _).trans (out_eq m c t T hT 0 _ _ _ (fun e => ?_) _ _ _ ?_ ?_ ?_)
    rotate_left
    · omega
    · dsimp only
      omega
    · omega
    have a0 : k0_off1 0 = 0 := by rw [k0_off1_eq]; rfl
    have a1 : k0_off1 1 = 0 := by rw [k0_off1_eq]; rfl
    have b0 : k0_off2 0 = 0 := by rw [k0_off2_eq]; rfl
    have b1 : k0_off2 1 = 0 := by rw [k0_off2_eq]; rfl
    refine (k_out _ _ _ _ _ _ e).trans (head_eq m c T 0 _ _ _ _ _ ?_ ?_ ?_ ?_ ?_ _ e)
    · intro j d
      rw [← b_eq m c t T hT (View.ld (iblk m c 4 t) (Rect.unit ![0, 64] ![8, 16] inb_S8x128_S8x16_0_64)) (by intro j x; pointwise)
        0 j d ⟨0 + d.val, by omega⟩ rfl]
      unfold cums
      pointwise
      simp only [a0, a1, Nat.zero_add, Fin.eta] <;> rfl
    · intro j d
      rw [ref_q _ T 0 j d ⟨T.val * 8 + j.val, by omega⟩ ⟨0 + d.val, by omega⟩ rfl rfl,
        ← at_q m c t j ⟨0 + d.val, by omega⟩ ⟨T.val * 8 + j.val, by omega⟩ (by dsimp only; omega)]
      pointwise
      simp only [a0, a1, Nat.zero_add, Fin.eta] <;> rfl
    · intro j d
      rw [ref_k _ T 0 j d ⟨T.val * 8 + j.val, by omega⟩ ⟨512 + (0 + d.val), by omega⟩ rfl rfl,
        ← at_k m c t j ⟨0 + d.val, by omega⟩ ⟨T.val * 8 + j.val, by omega⟩ (by dsimp only; omega)]
      pointwise
      simp only [a0, a1, Nat.zero_add, Fin.eta] <;> rfl
    · intro j e
      rw [ref_v _ T 0 j e ⟨T.val * 8 + j.val, by omega⟩ ⟨1024 + (0 + e.val), by omega⟩ rfl rfl,
        ← at_v m c t j ⟨0 + e.val, by omega⟩ ⟨T.val * 8 + j.val, by omega⟩ (by dsimp only; omega)]
      pointwise
      simp only [b0, b1, Nat.zero_add, Fin.eta] <;> rfl
    · intro d e
      rw [← at_state m c t 0 d e T hT]
      pointwise [k0_pay6]

set_option maxHeartbeats 4000000 in
/-- What a point leaves in the state's block: the reference's state of its sequence. -/
theorem point10 (c : Dev nD) (t : Fin cfg0.N) (T : Fin 32) (hT : T.val = t.val) (y : S1x4x128x256.Idx) :
    (outsAt0 m c t).2 y = val_main_v57 (F := Ideal) (m ((c : Thread nD τ).loc main_arg0)) (m ((c : Thread nD τ).loc main_arg1)) (m ((c : Thread nD τ).loc main_arg2)) (m ((c : Thread nD τ).loc main_arg4)) (ix4 T (y 1) (y 2) (y 3)) := by
  dsimp only [outsAt0]
  frame_out
  simp (discharger := decide) only [↓View.readCov_skip, ↓View.readCov_cons_toLoadRect, ↓View.readCov_fill, ↓read_at]
  canon_tiles x h
  · idx_vars x
    obtain rfl : x0 = 0 := Subsingleton.elim _ _
    obtain rfl : x1 = 0 := Subsingleton.elim _ _
    have i1 : @Eq (Fin 4) (y 1) 3 := Fin.ext (h1.trans rfl)
    have i2 : @Eq (Fin 128) (y 2) x2 := Fin.ext h2
    have i3 : @Eq (Fin 256) (y 3) x3 := Fin.ext h3
    rw [i1, i2, i3]
    rw [state3]
    have a0 : k0_off7 0 = 0 := by rw [k0_off7_eq]; rfl
    have a1 : k0_off7 1 = 384 := by rw [k0_off7_eq]; rfl
    have b0 : k0_off8 0 = 0 := by rw [k0_off8_eq]; rfl
    have b1 : k0_off8 1 = 768 := by rw [k0_off8_eq]; rfl
    refine (k_state _ _ _ _ x2 x3).trans (state_eq m c T 3 _ _ _ _ ?_ ?_ ?_ ?_ x2 x3)
    · intro j d
      rw [← b_eq m c t T hT (View.ld (iblk m c 4 t) (Rect.unit ![0, 64] ![8, 16] inb_S8x128_S8x16_0_64)) (by intro j x; pointwise)
        3 j d ⟨384 + d.val, by omega⟩ rfl]
      unfold cums
      pointwise
      simp only [a0, a1, Nat.zero_add, Fin.eta] <;> rfl
    · intro j d
      rw [ref_k _ T 3 j d ⟨T.val * 8 + j.val, by omega⟩ ⟨512 + (384 + d.val), by omega⟩ rfl rfl,
        ← at_k m c t j ⟨384 + d.val, by omega⟩ ⟨T.val * 8 + j.val, by omega⟩ (by dsimp only; omega)]
      pointwise
      simp only [a0, a1, Nat.zero_add, Fin.eta] <;> rfl
    · intro j e
      rw [ref_v _ T 3 j e ⟨T.val * 8 + j.val, by omega⟩ ⟨1024 + (768 + e.val), by omega⟩ rfl rfl,
        ← at_v m c t j ⟨768 + e.val, by omega⟩ ⟨T.val * 8 + j.val, by omega⟩ (by dsimp only; omega)]
      pointwise
      simp only [b0, b1, Nat.zero_add, Fin.eta] <;> rfl
    · intro d e
      rw [← at_state m c t 3 d e T hT]
      pointwise [k0_pay9]
  · idx_vars x
    obtain rfl : x0 = 0 := Subsingleton.elim _ _
    obtain rfl : x1 = 0 := Subsingleton.elim _ _
    have i1 : @Eq (Fin 4) (y 1) 2 := Fin.ext (h1.trans rfl)
    have i2 : @Eq (Fin 128) (y 2) x2 := Fin.ext h2
    have i3 : @Eq (Fin 256) (y 3) x3 := Fin.ext h3
    rw [i1, i2, i3]
    rw [state2]
    have a0 : k0_off5 0 = 0 := by rw [k0_off5_eq]; rfl
    have a1 : k0_off5 1 = 256 := by rw [k0_off5_eq]; rfl
    have b0 : k0_off6 0 = 0 := by rw [k0_off6_eq]; rfl
    have b1 : k0_off6 1 = 512 := by rw [k0_off6_eq]; rfl
    refine (k_state _ _ _ _ x2 x3).trans (state_eq m c T 2 _ _ _ _ ?_ ?_ ?_ ?_ x2 x3)
    · intro j d
      rw [← b_eq m c t T hT (View.ld (iblk m c 4 t) (Rect.unit ![0, 64] ![8, 16] inb_S8x128_S8x16_0_64)) (by intro j x; pointwise)
        2 j d ⟨256 + d.val, by omega⟩ rfl]
      unfold cums
      pointwise
      simp only [a0, a1, Nat.zero_add, Fin.eta] <;> rfl
    · intro j d
      rw [ref_k _ T 2 j d ⟨T.val * 8 + j.val, by omega⟩ ⟨512 + (256 + d.val), by omega⟩ rfl rfl,
        ← at_k m c t j ⟨256 + d.val, by omega⟩ ⟨T.val * 8 + j.val, by omega⟩ (by dsimp only; omega)]
      pointwise
      simp only [a0, a1, Nat.zero_add, Fin.eta] <;> rfl
    · intro j e
      rw [ref_v _ T 2 j e ⟨T.val * 8 + j.val, by omega⟩ ⟨1024 + (512 + e.val), by omega⟩ rfl rfl,
        ← at_v m c t j ⟨512 + e.val, by omega⟩ ⟨T.val * 8 + j.val, by omega⟩ (by dsimp only; omega)]
      pointwise
      simp only [b0, b1, Nat.zero_add, Fin.eta] <;> rfl
    · intro d e
      rw [← at_state m c t 2 d e T hT]
      pointwise [k0_pay8]
  · idx_vars x
    obtain rfl : x0 = 0 := Subsingleton.elim _ _
    obtain rfl : x1 = 0 := Subsingleton.elim _ _
    have i1 : @Eq (Fin 4) (y 1) 1 := Fin.ext (h1.trans rfl)
    have i2 : @Eq (Fin 128) (y 2) x2 := Fin.ext h2
    have i3 : @Eq (Fin 256) (y 3) x3 := Fin.ext h3
    rw [i1, i2, i3]
    rw [state1]
    have a0 : k0_off3 0 = 0 := by rw [k0_off3_eq]; rfl
    have a1 : k0_off3 1 = 128 := by rw [k0_off3_eq]; rfl
    have b0 : k0_off4 0 = 0 := by rw [k0_off4_eq]; rfl
    have b1 : k0_off4 1 = 256 := by rw [k0_off4_eq]; rfl
    refine (k_state _ _ _ _ x2 x3).trans (state_eq m c T 1 _ _ _ _ ?_ ?_ ?_ ?_ x2 x3)
    · intro j d
      rw [← b_eq m c t T hT (View.ld (iblk m c 4 t) (Rect.unit ![0, 64] ![8, 16] inb_S8x128_S8x16_0_64)) (by intro j x; pointwise)
        1 j d ⟨128 + d.val, by omega⟩ rfl]
      unfold cums
      pointwise
      simp only [a0, a1, Nat.zero_add, Fin.eta] <;> rfl
    · intro j d
      rw [ref_k _ T 1 j d ⟨T.val * 8 + j.val, by omega⟩ ⟨512 + (128 + d.val), by omega⟩ rfl rfl,
        ← at_k m c t j ⟨128 + d.val, by omega⟩ ⟨T.val * 8 + j.val, by omega⟩ (by dsimp only; omega)]
      pointwise
      simp only [a0, a1, Nat.zero_add, Fin.eta] <;> rfl
    · intro j e
      rw [ref_v _ T 1 j e ⟨T.val * 8 + j.val, by omega⟩ ⟨1024 + (256 + e.val), by omega⟩ rfl rfl,
        ← at_v m c t j ⟨256 + e.val, by omega⟩ ⟨T.val * 8 + j.val, by omega⟩ (by dsimp only; omega)]
      pointwise
      simp only [b0, b1, Nat.zero_add, Fin.eta] <;> rfl
    · intro d e
      rw [← at_state m c t 1 d e T hT]
      pointwise [k0_pay7]
  · idx_vars x
    obtain rfl : x0 = 0 := Subsingleton.elim _ _
    obtain rfl : x1 = 0 := Subsingleton.elim _ _
    have i1 : @Eq (Fin 4) (y 1) 0 := Fin.ext (h1.trans rfl)
    have i2 : @Eq (Fin 128) (y 2) x2 := Fin.ext h2
    have i3 : @Eq (Fin 256) (y 3) x3 := Fin.ext h3
    rw [i1, i2, i3]
    have a0 : k0_off1 0 = 0 := by rw [k0_off1_eq]; rfl
    have a1 : k0_off1 1 = 0 := by rw [k0_off1_eq]; rfl
    have b0 : k0_off2 0 = 0 := by rw [k0_off2_eq]; rfl
    have b1 : k0_off2 1 = 0 := by rw [k0_off2_eq]; rfl
    refine (k_state _ _ _ _ x2 x3).trans (state_eq m c T 0 _ _ _ _ ?_ ?_ ?_ ?_ x2 x3)
    · intro j d
      rw [← b_eq m c t T hT (View.ld (iblk m c 4 t) (Rect.unit ![0, 64] ![8, 16] inb_S8x128_S8x16_0_64)) (by intro j x; pointwise)
        0 j d ⟨0 + d.val, by omega⟩ rfl]
      unfold cums
      pointwise
      simp only [a0, a1, Nat.zero_add, Fin.eta] <;> rfl
    · intro j d
      rw [ref_k _ T 0 j d ⟨T.val * 8 + j.val, by omega⟩ ⟨512 + (0 + d.val), by omega⟩ rfl rfl,
        ← at_k m c t j ⟨0 + d.val, by omega⟩ ⟨T.val * 8 + j.val, by omega⟩ (by dsimp only; omega)]
      pointwise
      simp only [a0, a1, Nat.zero_add, Fin.eta] <;> rfl
    · intro j e
      rw [ref_v _ T 0 j e ⟨T.val * 8 + j.val, by omega⟩ ⟨1024 + (0 + e.val), by omega⟩ rfl rfl,
        ← at_v m c t j ⟨0 + e.val, by omega⟩ ⟨T.val * 8 + j.val, by omega⟩ (by dsimp only; omega)]
      pointwise
      simp only [b0, b1, Nat.zero_add, Fin.eta] <;> rfl
    · intro d e
      rw [← at_state m c t 0 d e T hT]
      pointwise [k0_pay6]

/-- The call's first result is the reference's. -/
theorem final9 (c : Dev nD) : (dats m 0 c).arrAt 9 cfg0.N = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9]
  have hN : t.val < 32 := lt_of_lt_of_eq t.isLt (show cfg0.N = 32 from N_0)
  idx_vars y
  refine (point9 m c t ⟨t.val, hN⟩ rfl (ix2 y0 y1) ⟨t.val * 8 + y0.val, by omega⟩ y1 rfl rfl).trans ?_
  congr 1
  blk_ext [idx t]

/-- The call's second result is the reference's. -/
theorem final10 (c : Dev nD) : (dats m 0 c).arrAt 10 cfg0.N = val_main_v57 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 10 _ (by decide +kernel) fun t hf y => ?_
  blk_simp
  rw [after0_10]
  have hN : t.val < 32 := lt_of_lt_of_eq t.isLt (show cfg0.N = 32 from N_0)
  idx_vars y
  refine (point10 m c t ⟨t.val, hN⟩ rfl (ix4 y0 y1 y2 y3)).trans ?_
  congr 1
  blk_ext [idx t]

/-- The kernel's results are the reference's. -/
theorem algebraic : Cert.algebraic_KernelIdeal_ReferenceIdeal := by
  pair_intro
  · run_from Cert.KernelIdeal.Gen.run_main m g
  · run_from Cert.ReferenceIdeal.Value.run m' g'
    all_goals obtain ⟨h0, h1, h2, h3, h4⟩ := hagree c
    · rw [val_main_v77_eq, h0, h1, h2, h3, h4]
      exact (final9 m c).symm
    · rw [val_main_v57_eq, h0, h1, h2, h4]
      exact (final10 m c).symm

end

end Cert.Gla

end
-- ==== Proof.AttnHead.lean ====
/-
  One head of the attention kernel at one point: the running greatest logit, the running sum of exponentials and the
  running weighted sum, each updated by the point's block of 512 keys. The eight heads compute the same formulas.
-/
module

public import proofs.«01_k».proof.Defs
public import proofs.«01_k».proof.Proof.Gen.Kernel6Ideal.Frame
public import proofs.«01_k».proof.Proof.Gen.Reference6Ideal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Attention

open Cert.Kernel6Ideal Cert.Kernel6Ideal.Gen

variable (B : FVec Ideal S1x256x512 .bf16) (q : FVec Ideal S256x128 .bf16) (k v : FVec Ideal S512x128 .bf16)
  (m l : FVec Ideal S1x256x1 .f32) (a : FVec Ideal S256x128 .f32)

/-- The logit of row `r` and key `s` of the blocks. -/
def lg (r : Fin 256) (s : Fin 512) : EReal :=
  (∑ j : Fin 128, q (ix2 r j) * k (ix2 s j)) * Ideal.ofBits FTy.f32 1035273459#32 + B (ix3 0 r s)

/-- The running greatest value after a block of values. -/
def up (μ : EReal) (S : Fin 512 → EReal) : EReal :=
  max μ (Finset.fold max (Ideal.ofBits FTy.f32 4286578688#32) S Finset.univ)

theorem head_m0 (r : Fin 256) : k0_pay16 (F := Ideal) (k0_pay9 (F := Ideal) B q k m) (ix3 0 r 0) = up (m (ix3 0 r 0)) (lg B q k r) := by
  pointwise [up, lg, k0_pay16, k0_pay9, k0_pay8, k0_pay7, k0_pay6]

theorem head_l0 (r : Fin 256) : k0_pay12 (F := Ideal) B q k m l (ix3 0 r 0)
    = Ideal.exp (m (ix3 0 r 0) - up (m (ix3 0 r 0)) (lg B q k r)) * l (ix3 0 r 0)
      + ∑ s, Ideal.exp (lg B q k r s - up (m (ix3 0 r 0)) (lg B q k r)) := by
  pointwise [up, lg, k0_pay12, k0_pay11, k0_pay10, k0_pay9, k0_pay8, k0_pay7, k0_pay6]

theorem head_a0 (r : Fin 256) (d : Fin 128) : k0_pay15 (F := Ideal) (k0_pay13 (F := Ideal) B q k m a) (k0_pay14 (F := Ideal) B q k v m) (ix2 r d)
    = Ideal.exp (m (ix3 0 r 0) - up (m (ix3 0 r 0)) (lg B q k r)) * a (ix2 r d)
      + ∑ s, Ideal.exp (lg B q k r s - up (m (ix3 0 r 0)) (lg B q k r)) * v (ix2 s d) := by
  pointwise [up, lg, k0_pay15, k0_pay14, k0_pay13, k0_pay11, k0_pay10, k0_pay9, k0_pay8, k0_pay7, k0_pay6]

theorem head_o0 (r : Fin 256) (d : Fin 128) : k0_pay76 (F := Ideal) a l (ix2 r d) = Ideal.div (a (ix2 r d)) (l (ix3 0 r 0)) := by
  pointwise [k0_pay76]

theorem same_m1 : k0_pay24 (F := Ideal) (k0_pay19 (F := Ideal) (k0_pay6 (F := Ideal) B) q k m) = k0_pay16 (F := Ideal) (k0_pay9 (F := Ideal) B q k m) := rfl

theorem same_l1 : k0_pay22 (F := Ideal) (k0_pay6 (F := Ideal) B) q k m l = k0_pay12 (F := Ideal) B q k m l := rfl

theorem same_a1 : k0_pay23 (F := Ideal) v (k0_pay20 (F := Ideal) (k0_pay6 (F := Ideal) B) q k m) (k0_pay21 (F := Ideal) (k0_pay6 (F := Ideal) B) q k m) a = k0_pay15 (F := Ideal) (k0_pay13 (F := Ideal) B q k m a) (k0_pay14 (F := Ideal) B q k v m) := rfl

theorem same_o1 : k0_pay77 (F := Ideal) a l = k0_pay76 (F := Ideal) a l := rfl

theorem same_m2 : k0_pay34 (F := Ideal) (k0_pay27 (F := Ideal) (k0_pay6 (F := Ideal) B) q k m) = k0_pay16 (F := Ideal) (k0_pay9 (F := Ideal) B q k m) := rfl

theorem same_l2 : k0_pay32 (F := Ideal) (k0_pay30 (F := Ideal) (k0_pay6 (F := Ideal) B) q k m l) (k0_pay31 (F := Ideal) (k0_pay6 (F := Ideal) B) q k m) = k0_pay12 (F := Ideal) B q k m l := rfl

theorem same_a2 : k0_pay33 (F := Ideal) v (k0_pay28 (F := Ideal) (k0_pay6 (F := Ideal) B) q k m) (k0_pay29 (F := Ideal) (k0_pay6 (F := Ideal) B) q k m) a = k0_pay15 (F := Ideal) (k0_pay13 (F := Ideal) B q k m a) (k0_pay14 (F := Ideal) B q k v m) := rfl

theorem same_o2 : k0_pay78 (F := Ideal) a l = k0_pay76 (F := Ideal) a l := rfl

theorem same_m3 : k0_pay42 (F := Ideal) (k0_pay37 (F := Ideal) (k0_pay6 (F := Ideal) B) q k m) = k0_pay16 (F := Ideal) (k0_pay9 (F := Ideal) B q k m) := rfl

theorem same_l3 : k0_pay40 (F := Ideal) (k0_pay38 (F := Ideal) (k0_pay6 (F := Ideal) B) q k m) (k0_pay39 (F := Ideal) (k0_pay6 (F := Ideal) B) q k m) l = k0_pay12 (F := Ideal) B q k m l := rfl

theorem same_a3 : k0_pay41 (F := Ideal) v (k0_pay38 (F := Ideal) (k0_pay6 (F := Ideal) B) q k m) (k0_pay39 (F := Ideal) (k0_pay6 (F := Ideal) B) q k m) a = k0_pay15 (F := Ideal) (k0_pay13 (F := Ideal) B q k m a) (k0_pay14 (F := Ideal) B q k v m) := rfl

theorem same_o3 : k0_pay79 (F := Ideal) a l = k0_pay76 (F := Ideal) a l := rfl

theorem same_m4 : k0_pay51 (F := Ideal) (k0_pay44 (F := Ideal) m) (k0_pay45 (F := Ideal) (k0_pay6 (F := Ideal) B) q k) = k0_pay16 (F := Ideal) (k0_pay9 (F := Ideal) B q k m) := rfl

theorem same_l4 : k0_pay49 (F := Ideal) (k0_pay43 (F := Ideal) (k0_pay6 (F := Ideal) B) q k) (k0_pay44 (F := Ideal) m) (k0_pay45 (F := Ideal) (k0_pay6 (F := Ideal) B) q k) l = k0_pay12 (F := Ideal) B q k m l := rfl

theorem same_a4 : k0_pay50 (F := Ideal) v (k0_pay43 (F := Ideal) (k0_pay6 (F := Ideal) B) q k) (k0_pay44 (F := Ideal) m) (k0_pay45 (F := Ideal) (k0_pay6 (F := Ideal) B) q k) a = k0_pay15 (F := Ideal) (k0_pay13 (F := Ideal) B q k m a) (k0_pay14 (F := Ideal) B q k v m) := rfl

theorem same_o4 : k0_pay80 (F := Ideal) a l = k0_pay76 (F := Ideal) a l := rfl

theorem same_m5 : k0_pay60 (F := Ideal) (k0_pay6 (F := Ideal) B) (k0_pay52 (F := Ideal) q k) m = k0_pay16 (F := Ideal) (k0_pay9 (F := Ideal) B q k m) := rfl

theorem same_l5 : k0_pay58 (F := Ideal) (k0_pay6 (F := Ideal) B) (k0_pay52 (F := Ideal) q k) m l = k0_pay12 (F := Ideal) B q k m l := rfl

theorem same_a5 : k0_pay59 (F := Ideal) (k0_pay6 (F := Ideal) B) v (k0_pay52 (F := Ideal) q k) m a = k0_pay15 (F := Ideal) (k0_pay13 (F := Ideal) B q k m a) (k0_pay14 (F := Ideal) B q k v m) := rfl

theorem same_o5 : k0_pay81 (F := Ideal) a l = k0_pay76 (F := Ideal) a l := rfl

theorem same_m6 : k0_pay68 (F := Ideal) (k0_pay63 (F := Ideal) (k0_pay6 (F := Ideal) B) q k m) = k0_pay16 (F := Ideal) (k0_pay9 (F := Ideal) B q k m) := rfl

theorem same_l6 : k0_pay66 (F := Ideal) (k0_pay6 (F := Ideal) B) q k m l = k0_pay12 (F := Ideal) B q k m l := rfl

theorem same_a6 : k0_pay67 (F := Ideal) (k0_pay6 (F := Ideal) B) q k v m a = k0_pay15 (F := Ideal) (k0_pay13 (F := Ideal) B q k m a) (k0_pay14 (F := Ideal) B q k v m) := rfl

theorem same_o6 : k0_pay82 (F := Ideal) a l = k0_pay76 (F := Ideal) a l := rfl

theorem same_m7 : k0_pay5 (F := Ideal) (k0_pay71 (F := Ideal) (k0_pay6 (F := Ideal) B) q k m) = k0_pay16 (F := Ideal) (k0_pay9 (F := Ideal) B q k m) := rfl

theorem same_l7 : k0_pay74 (F := Ideal) (k0_pay6 (F := Ideal) B) q k m l = k0_pay12 (F := Ideal) B q k m l := rfl

theorem same_a7 : k0_pay4 (F := Ideal) (k0_pay75 (F := Ideal) (k0_pay6 (F := Ideal) B) q k v m a) = k0_pay15 (F := Ideal) (k0_pay13 (F := Ideal) B q k m a) (k0_pay14 (F := Ideal) B q k v m) := rfl

theorem same_o7 : k0_pay83 (F := Ideal) a l = k0_pay76 (F := Ideal) a l := rfl

theorem head_m1 (r : Fin 256) : k0_pay24 (F := Ideal) (k0_pay19 (F := Ideal) (k0_pay6 (F := Ideal) B) q k m) (ix3 0 r 0)
    = up (m (ix3 0 r 0)) (lg B q k r) := by
  rw [same_m1]; exact head_m0 B q k m r

theorem head_l1 (r : Fin 256) : k0_pay22 (F := Ideal) (k0_pay6 (F := Ideal) B) q k m l (ix3 0 r 0)
    = Ideal.exp (m (ix3 0 r 0) - up (m (ix3 0 r 0)) (lg B q k r)) * l (ix3 0 r 0)
      + ∑ s, Ideal.exp (lg B q k r s - up (m (ix3 0 r 0)) (lg B q k r)) := by
  rw [same_l1]; exact head_l0 B q k m l r

theorem head_a1 (r : Fin 256) (d : Fin 128) : k0_pay23 (F := Ideal) v (k0_pay20 (F := Ideal) (k0_pay6 (F := Ideal) B) q k m) (k0_pay21 (F := Ideal) (k0_pay6 (F := Ideal) B) q k m) a (ix2 r d)
    = Ideal.exp (m (ix3 0 r 0) - up (m (ix3 0 r 0)) (lg B q k r)) * a (ix2 r d)
      + ∑ s, Ideal.exp (lg B q k r s - up (m (ix3 0 r 0)) (lg B q k r)) * v (ix2 s d) := by
  rw [same_a1]; exact head_a0 B q k v m a r d

theorem head_o1 (r : Fin 256) (d : Fin 128) : k0_pay77 (F := Ideal) a l (ix2 r d)
    = Ideal.div (a (ix2 r d)) (l (ix3 0 r 0)) := by
  rw [same_o1]; exact head_o0 l a r d

theorem head_m2 (r : Fin 256) : k0_pay34 (F := Ideal) (k0_pay27 (F := Ideal) (k0_pay6 (F := Ideal) B) q k m) (ix3 0 r 0)
    = up (m (ix3 0 r 0)) (lg B q k r) := by
  rw [same_m2]; exact head_m0 B q k m r

theorem head_l2 (r : Fin 256) : k0_pay32 (F := Ideal) (k0_pay30 (F := Ideal) (k0_pay6 (F := Ideal) B) q k m l) (k0_pay31 (F := Ideal) (k0_pay6 (F := Ideal) B) q k m) (ix3 0 r 0)
    = Ideal.exp (m (ix3 0 r 0) - up (m (ix3 0 r 0)) (lg B q k r)) * l (ix3 0 r 0)
      + ∑ s, Ideal.exp (lg B q k r s - up (m (ix3 0 r 0)) (lg B q k r)) := by
  rw [same_l2]; exact head_l0 B q k m l r

theorem head_a2 (r : Fin 256) (d : Fin 128) : k0_pay33 (F := Ideal) v (k0_pay28 (F := Ideal) (k0_pay6 (F := Ideal) B) q k m) (k0_pay29 (F := Ideal) (k0_pay6 (F := Ideal) B) q k m) a (ix2 r d)
    = Ideal.exp (m (ix3 0 r 0) - up (m (ix3 0 r 0)) (lg B q k r)) * a (ix2 r d)
      + ∑ s, Ideal.exp (lg B q k r s - up (m (ix3 0 r 0)) (lg B q k r)) * v (ix2 s d) := by
  rw [same_a2]; exact head_a0 B q k v m a r d

theorem head_o2 (r : Fin 256) (d : Fin 128) : k0_pay78 (F := Ideal) a l (ix2 r d)
    = Ideal.div (a (ix2 r d)) (l (ix3 0 r 0)) := by
  rw [same_o2]; exact head_o0 l a r d

theorem head_m3 (r : Fin 256) : k0_pay42 (F := Ideal) (k0_pay37 (F := Ideal) (k0_pay6 (F := Ideal) B) q k m) (ix3 0 r 0)
    = up (m (ix3 0 r 0)) (lg B q k r) := by
  rw [same_m3]; exact head_m0 B q k m r

theorem head_l3 (r : Fin 256) : k0_pay40 (F := Ideal) (k0_pay38 (F := Ideal) (k0_pay6 (F := Ideal) B) q k m) (k0_pay39 (F := Ideal) (k0_pay6 (F := Ideal) B) q k m) l (ix3 0 r 0)
    = Ideal.exp (m (ix3 0 r 0) - up (m (ix3 0 r 0)) (lg B q k r)) * l (ix3 0 r 0)
      + ∑ s, Ideal.exp (lg B q k r s - up (m (ix3 0 r 0)) (lg B q k r)) := by
  rw [same_l3]; exact head_l0 B q k m l r

theorem head_a3 (r : Fin 256) (d : Fin 128) : k0_pay41 (F := Ideal) v (k0_pay38 (F := Ideal) (k0_pay6 (F := Ideal) B) q k m) (k0_pay39 (F := Ideal) (k0_pay6 (F := Ideal) B) q k m) a (ix2 r d)
    = Ideal.exp (m (ix3 0 r 0) - up (m (ix3 0 r 0)) (lg B q k r)) * a (ix2 r d)
      + ∑ s, Ideal.exp (lg B q k r s - up (m (ix3 0 r 0)) (lg B q k r)) * v (ix2 s d) := by
  rw [same_a3]; exact head_a0 B q k v m a r d

theorem head_o3 (r : Fin 256) (d : Fin 128) : k0_pay79 (F := Ideal) a l (ix2 r d)
    = Ideal.div (a (ix2 r d)) (l (ix3 0 r 0)) := by
  rw [same_o3]; exact head_o0 l a r d

theorem head_m4 (r : Fin 256) : k0_pay51 (F := Ideal) (k0_pay44 (F := Ideal) m) (k0_pay45 (F := Ideal) (k0_pay6 (F := Ideal) B) q k) (ix3 0 r 0)
    = up (m (ix3 0 r 0)) (lg B q k r) := by
  rw [same_m4]; exact head_m0 B q k m r

theorem head_l4 (r : Fin 256) : k0_pay49 (F := Ideal) (k0_pay43 (F := Ideal) (k0_pay6 (F := Ideal) B) q k) (k0_pay44 (F := Ideal) m) (k0_pay45 (F := Ideal) (k0_pay6 (F := Ideal) B) q k) l (ix3 0 r 0)
    = Ideal.exp (m (ix3 0 r 0) - up (m (ix3 0 r 0)) (lg B q k r)) * l (ix3 0 r 0)
      + ∑ s, Ideal.exp (lg B q k r s - up (m (ix3 0 r 0)) (lg B q k r)) := by
  rw [same_l4]; exact head_l0 B q k m l r

theorem head_a4 (r : Fin 256) (d : Fin 128) : k0_pay50 (F := Ideal) v (k0_pay43 (F := Ideal) (k0_pay6 (F := Ideal) B) q k) (k0_pay44 (F := Ideal) m) (k0_pay45 (F := Ideal) (k0_pay6 (F := Ideal) B) q k) a (ix2 r d)
    = Ideal.exp (m (ix3 0 r 0) - up (m (ix3 0 r 0)) (lg B q k r)) * a (ix2 r d)
      + ∑ s, Ideal.exp (lg B q k r s - up (m (ix3 0 r 0)) (lg B q k r)) * v (ix2 s d) := by
  rw [same_a4]; exact head_a0 B q k v m a r d

theorem head_o4 (r : Fin 256) (d : Fin 128) : k0_pay80 (F := Ideal) a l (ix2 r d)
    = Ideal.div (a (ix2 r d)) (l (ix3 0 r 0)) := by
  rw [same_o4]; exact head_o0 l a r d

theorem head_m5 (r : Fin 256) : k0_pay60 (F := Ideal) (k0_pay6 (F := Ideal) B) (k0_pay52 (F := Ideal) q k) m (ix3 0 r 0)
    = up (m (ix3 0 r 0)) (lg B q k r) := by
  rw [same_m5]; exact head_m0 B q k m r

theorem head_l5 (r : Fin 256) : k0_pay58 (F := Ideal) (k0_pay6 (F := Ideal) B) (k0_pay52 (F := Ideal) q k) m l (ix3 0 r 0)
    = Ideal.exp (m (ix3 0 r 0) - up (m (ix3 0 r 0)) (lg B q k r)) * l (ix3 0 r 0)
      + ∑ s, Ideal.exp (lg B q k r s - up (m (ix3 0 r 0)) (lg B q k r)) := by
  rw [same_l5]; exact head_l0 B q k m l r

theorem head_a5 (r : Fin 256) (d : Fin 128) : k0_pay59 (F := Ideal) (k0_pay6 (F := Ideal) B) v (k0_pay52 (F := Ideal) q k) m a (ix2 r d)
    = Ideal.exp (m (ix3 0 r 0) - up (m (ix3 0 r 0)) (lg B q k r)) * a (ix2 r d)
      + ∑ s, Ideal.exp (lg B q k r s - up (m (ix3 0 r 0)) (lg B q k r)) * v (ix2 s d) := by
  rw [same_a5]; exact head_a0 B q k v m a r d

theorem head_o5 (r : Fin 256) (d : Fin 128) : k0_pay81 (F := Ideal) a l (ix2 r d)
    = Ideal.div (a (ix2 r d)) (l (ix3 0 r 0)) := by
  rw [same_o5]; exact head_o0 l a r d

theorem head_m6 (r : Fin 256) : k0_pay68 (F := Ideal) (k0_pay63 (F := Ideal) (k0_pay6 (F := Ideal) B) q k m) (ix3 0 r 0)
    = up (m (ix3 0 r 0)) (lg B q k r) := by
  rw [same_m6]; exact head_m0 B q k m r

theorem head_l6 (r : Fin 256) : k0_pay66 (F := Ideal) (k0_pay6 (F := Ideal) B) q k m l (ix3 0 r 0)
    = Ideal.exp (m (ix3 0 r 0) - up (m (ix3 0 r 0)) (lg B q k r)) * l (ix3 0 r 0)
      + ∑ s, Ideal.exp (lg B q k r s - up (m (ix3 0 r 0)) (lg B q k r)) := by
  rw [same_l6]; exact head_l0 B q k m l r

theorem head_a6 (r : Fin 256) (d : Fin 128) : k0_pay67 (F := Ideal) (k0_pay6 (F := Ideal) B) q k v m a (ix2 r d)
    = Ideal.exp (m (ix3 0 r 0) - up (m (ix3 0 r 0)) (lg B q k r)) * a (ix2 r d)
      + ∑ s, Ideal.exp (lg B q k r s - up (m (ix3 0 r 0)) (lg B q k r)) * v (ix2 s d) := by
  rw [same_a6]; exact head_a0 B q k v m a r d

theorem head_o6 (r : Fin 256) (d : Fin 128) : k0_pay82 (F := Ideal) a l (ix2 r d)
    = Ideal.div (a (ix2 r d)) (l (ix3 0 r 0)) := by
  rw [same_o6]; exact head_o0 l a r d

theorem head_m7 (r : Fin 256) : k0_pay5 (F := Ideal) (k0_pay71 (F := Ideal) (k0_pay6 (F := Ideal) B) q k m) (ix3 0 r 0)
    = up (m (ix3 0 r 0)) (lg B q k r) := by
  rw [same_m7]; exact head_m0 B q k m r

theorem head_l7 (r : Fin 256) : k0_pay74 (F := Ideal) (k0_pay6 (F := Ideal) B) q k m l (ix3 0 r 0)
    = Ideal.exp (m (ix3 0 r 0) - up (m (ix3 0 r 0)) (lg B q k r)) * l (ix3 0 r 0)
      + ∑ s, Ideal.exp (lg B q k r s - up (m (ix3 0 r 0)) (lg B q k r)) := by
  rw [same_l7]; exact head_l0 B q k m l r

theorem head_a7 (r : Fin 256) (d : Fin 128) : k0_pay4 (F := Ideal) (k0_pay75 (F := Ideal) (k0_pay6 (F := Ideal) B) q k v m a) (ix2 r d)
    = Ideal.exp (m (ix3 0 r 0) - up (m (ix3 0 r 0)) (lg B q k r)) * a (ix2 r d)
      + ∑ s, Ideal.exp (lg B q k r s - up (m (ix3 0 r 0)) (lg B q k r)) * v (ix2 s d) := by
  rw [same_a7]; exact head_a0 B q k v m a r d

theorem head_o7 (r : Fin 256) (d : Fin 128) : k0_pay83 (F := Ideal) a l (ix2 r d)
    = Ideal.div (a (ix2 r d)) (l (ix3 0 r 0)) := by
  rw [same_o7]; exact head_o0 l a r d

end Cert.Attention

end
-- ==== Proof.AttnStep.lean ====
/-
  What a grid point of the attention kernel leaves in its scratch buffers and its output block, from what they held
  before: the formulas of one head, at all eight heads.
-/
module

public import proofs.«01_k».proof.Defs
public import proofs.«01_k».proof.Proof.Gen.Kernel6Ideal.Frame
public import proofs.«01_k».proof.Proof.Gen.Reference6Ideal.Read
public import proofs.«01_k».proof.Proof.AttnHead
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Attention

open Cert.Kernel6Ideal Cert.Kernel6Ideal.Gen

/-- Earlier stores are not seen where later ones cover. -/
theorem canon_covered {S : Shape} {e : EltTy} (L' : List (View.Piece (Elt Ideal) S e)) : ∀ (L : List (View.Piece (Elt Ideal) S e)) (y : S.Idx),
    (∃ p ∈ L, y ∈ p.1.set) → View.canon (L ++ L') y = View.canon L y
  | [], _, hc => by obtain ⟨p, hp, _⟩ := hc; exact absurd hp List.not_mem_nil
  | p :: L, y, hc => by
    rw [List.cons_append]
    by_cases hm : y ∈ p.1.set
    · obtain ⟨x, rfl⟩ := p.1.exists_idx_of_mem hm
      exact (View.canon_cons_emb p.1 p.2 _ x).trans (View.canon_cons_emb p.1 p.2 _ x).symm
    · rw [View.canon_cons_of_not_mem _ _ hm, View.canon_cons_of_not_mem _ _ hm]
      refine canon_covered L' L y ?_
      obtain ⟨q, hq, hyq⟩ := hc
      rcases List.mem_cons.mp hq with rfl | hq
      · exact absurd hyq hm
      · exact ⟨q, hq, hyq⟩

section
variable (Q : FVec Ideal S256x1024 .bf16) (K V : FVec Ideal S512x1024 .bf16) (B : FVec Ideal S1x256x512 .bf16)
  (P L : FVec Ideal S8x256x1 .f32) (A : FVec Ideal S256x1024 .f32)

/-- The logit of head `h`, row `r` and key `s` of the blocks. -/
def bl (h : Fin 8) (r : Fin 256) (s : Fin 512) : EReal :=
  (∑ j : Fin 128, Q (ix2 r ⟨h.val * 128 + j.val, by omega⟩) * K (ix2 s ⟨h.val * 128 + j.val, by omega⟩))
    * Ideal.ofBits FTy.f32 1035273459#32 + B (ix3 0 r s)

/-- The greatest logits after the point. -/
def stM : FVec Ideal S8x256x1 .f32 := fun y => up (P y) (bl Q K B (y 0) (y 1))

/-- The sums of exponentials after the point. -/
def stL : FVec Ideal S8x256x1 .f32 := fun y => Ideal.exp (P y - up (P y) (bl Q K B (y 0) (y 1))) * L y
  + ∑ s, Ideal.exp (bl Q K B (y 0) (y 1) s - up (P y) (bl Q K B (y 0) (y 1)))

/-- The head of a column. -/
def hd (d : Fin 1024) : Fin 8 := ⟨d.val / 128, by omega⟩

/-- The weighted sums after the point. -/
def stA : FVec Ideal S256x1024 .f32 := fun y =>
  Ideal.exp (P (ix3 (hd (y 1)) (y 0) 0) - up (P (ix3 (hd (y 1)) (y 0) 0)) (bl Q K B (hd (y 1)) (y 0))) * A y
  + ∑ s, Ideal.exp (bl Q K B (hd (y 1)) (y 0) s - up (P (ix3 (hd (y 1)) (y 0) 0)) (bl Q K B (hd (y 1)) (y 0))) * V (ix2 s (y 1))

/-- The quotients. -/
def stO : FVec Ideal S256x1024 .bf16 := fun y => Ideal.div (A y) (L (ix3 (hd (y 1)) (y 0) 0))

variable (h : Fin 8) (o n : ℕ) (ho : o = h.val * 128) (hn : n = h.val) (r : Fin 256)

theorem lg_ld (i0 : ∀ a, (![0, o] : Fin 2 → ℕ) a + (![256, 128] : Fin 2 → ℕ) a ≤ S256x1024.size a)
    (i1 : ∀ a, (![0, o] : Fin 2 → ℕ) a + (![512, 128] : Fin 2 → ℕ) a ≤ S512x1024.size a) (ho : o = h.val * 128) :
    lg B (View.ld (Val := Elt Ideal) (e' := .bf16) Q (Rect.unit ![0, o] ![256, 128] i0)) (View.ld (Val := Elt Ideal) (e' := .bf16) K (Rect.unit ![0, o] ![512, 128] i1)) r = bl Q K B h r := by
  funext s
  subst ho
  have eq (j : Fin 128) : View.ld (Val := Elt Ideal) (e' := .bf16) Q (Rect.unit ![0, h.val * 128] ![256, 128] i0) (ix2 r j) = Q (ix2 r ⟨h.val * 128 + j.val, by omega⟩) :=
    View.ld_unit_apply_of (Val := Elt Ideal) (S := S256x1024) (e := .bf16) Q _ _ _ _ _ fun (a : Fin 2) => match a with
      | ⟨0, _⟩ => (Nat.zero_add _).symm
      | ⟨1, _⟩ => rfl
  have ek (j : Fin 128) : View.ld (Val := Elt Ideal) (e' := .bf16) K (Rect.unit ![0, h.val * 128] ![512, 128] i1) (ix2 s j) = K (ix2 s ⟨h.val * 128 + j.val, by omega⟩) :=
    View.ld_unit_apply_of (Val := Elt Ideal) (S := S512x1024) (e := .bf16) K _ _ _ _ _ fun (a : Fin 2) => match a with
      | ⟨0, _⟩ => (Nat.zero_add _).symm
      | ⟨1, _⟩ => rfl
  unfold lg bl
  refine congrArg (· * _ + _) (Finset.sum_congr rfl fun j _ => ?_)
  exact congrArg₂ (· * ·) (eq j) (ek j)

theorem st_ld (i : ∀ a, (![n, 0, 0] : Fin 3 → ℕ) a + (![1, 256, 1] : Fin 3 → ℕ) a ≤ S8x256x1.size a) (hn : n = h.val) :
    View.ld (Val := Elt Ideal) (e' := .f32) P (Rect.unit ![n, 0, 0] ![1, 256, 1] i) (ix3 0 r 0) = P (ix3 h r 0) := by
  subst hn
  exact View.ld_unit_apply_of (Val := Elt Ideal) (S := S8x256x1) (e := .f32) P _ _ _ _ _ fun (a : Fin 3) => match a with
    | ⟨0, _⟩ => rfl
    | ⟨1, _⟩ => (Nat.zero_add _).symm
    | ⟨2, _⟩ => rfl

theorem row_ld (i : ∀ a, (![0, o] : Fin 2 → ℕ) a + (![256, 128] : Fin 2 → ℕ) a ≤ S256x1024.size a) (d : Fin 128) (D : Fin 1024)
    (hD : D.val = o + d.val) : View.ld (Val := Elt Ideal) (e' := .f32) A (Rect.unit ![0, o] ![256, 128] i) (ix2 r d) = A (ix2 r D) :=
  View.ld_unit_apply_of (Val := Elt Ideal) (S := S256x1024) (e := .f32) A _ _ _ _ _ fun (a : Fin 2) => match a with
    | ⟨0, _⟩ => (Nat.zero_add _).symm
    | ⟨1, _⟩ => hD

theorem val_ld (i : ∀ a, (![0, o] : Fin 2 → ℕ) a + (![512, 128] : Fin 2 → ℕ) a ≤ S512x1024.size a) (s : Fin 512) (d : Fin 128) (D : Fin 1024)
    (hD : D.val = o + d.val) : View.ld (Val := Elt Ideal) (e' := .bf16) V (Rect.unit ![0, o] ![512, 128] i) (ix2 s d) = V (ix2 s D) :=
  View.ld_unit_apply_of (Val := Elt Ideal) (S := S512x1024) (e := .bf16) V _ _ _ _ _ fun (a : Fin 2) => match a with
    | ⟨0, _⟩ => (Nat.zero_add _).symm
    | ⟨1, _⟩ => hD

theorem idx3 (y : S8x256x1.Idx) (h0 : (y 0).val = h.val) (h1 : (y 1).val = r.val) : y = ix3 h r 0 :=
  funext fun a => match a with
    | ⟨0, _⟩ => Fin.ext h0
    | ⟨1, _⟩ => Fin.ext h1
    | ⟨2, _⟩ => Subsingleton.elim (α := Fin 1) _ _

theorem idx2 (D : Fin 1024) (y : S256x1024.Idx) (h0 : (y 0).val = r.val) (h1 : (y 1).val = D.val) : y = ix2 r D :=
  funext fun a => match a with
    | ⟨0, _⟩ => Fin.ext h0
    | ⟨1, _⟩ => Fin.ext h1

variable (i0 : ∀ a, (![0, o] : Fin 2 → ℕ) a + (![256, 128] : Fin 2 → ℕ) a ≤ S256x1024.size a)
    (i1 : ∀ a, (![0, o] : Fin 2 → ℕ) a + (![512, 128] : Fin 2 → ℕ) a ≤ S512x1024.size a)
    (i3 : ∀ a, (![n, 0, 0] : Fin 3 → ℕ) a + (![1, 256, 1] : Fin 3 → ℕ) a ≤ S8x256x1.size a)
include ho hn

theorem piece_m (y : S8x256x1.Idx) (h0 : (y 0).val = h.val) (h1 : (y 1).val = r.val) :
    up (View.ld (Val := Elt Ideal) (e' := .f32) P (Rect.unit ![n, 0, 0] ![1, 256, 1] i3) (ix3 0 r 0))
      (lg B (View.ld (Val := Elt Ideal) (e' := .bf16) Q (Rect.unit ![0, o] ![256, 128] i0)) (View.ld (Val := Elt Ideal) (e' := .bf16) K (Rect.unit ![0, o] ![512, 128] i1)) r) = stM Q K B P y := by
  obtain rfl := idx3 h r y h0 h1
  rw [lg_ld Q K B h o r i0 i1 ho, st_ld P h n r i3 hn]
  rfl

theorem piece_l (y : S8x256x1.Idx) (h0 : (y 0).val = h.val) (h1 : (y 1).val = r.val) :
    Ideal.exp (View.ld (Val := Elt Ideal) (e' := .f32) P (Rect.unit ![n, 0, 0] ![1, 256, 1] i3) (ix3 0 r 0) - up (View.ld (Val := Elt Ideal) (e' := .f32) P (Rect.unit ![n, 0, 0] ![1, 256, 1] i3) (ix3 0 r 0))
      (lg B (View.ld (Val := Elt Ideal) (e' := .bf16) Q (Rect.unit ![0, o] ![256, 128] i0)) (View.ld (Val := Elt Ideal) (e' := .bf16) K (Rect.unit ![0, o] ![512, 128] i1)) r))
      * View.ld (Val := Elt Ideal) (e' := .f32) L (Rect.unit ![n, 0, 0] ![1, 256, 1] i3) (ix3 0 r 0)
      + ∑ s, Ideal.exp (lg B (View.ld (Val := Elt Ideal) (e' := .bf16) Q (Rect.unit ![0, o] ![256, 128] i0)) (View.ld (Val := Elt Ideal) (e' := .bf16) K (Rect.unit ![0, o] ![512, 128] i1)) r s
        - up (View.ld (Val := Elt Ideal) (e' := .f32) P (Rect.unit ![n, 0, 0] ![1, 256, 1] i3) (ix3 0 r 0))
      (lg B (View.ld (Val := Elt Ideal) (e' := .bf16) Q (Rect.unit ![0, o] ![256, 128] i0)) (View.ld (Val := Elt Ideal) (e' := .bf16) K (Rect.unit ![0, o] ![512, 128] i1)) r))
      = stL Q K B P L y := by
  obtain rfl := idx3 h r y h0 h1
  rw [lg_ld Q K B h o r i0 i1 ho, st_ld P h n r i3 hn, st_ld L h n r i3 hn]
  rfl

theorem piece_a (d : Fin 128) (y : S256x1024.Idx) (h0 : (y 0).val = r.val) (h1 : (y 1).val = o + d.val) :
    Ideal.exp (View.ld (Val := Elt Ideal) (e' := .f32) P (Rect.unit ![n, 0, 0] ![1, 256, 1] i3) (ix3 0 r 0) - up (View.ld (Val := Elt Ideal) (e' := .f32) P (Rect.unit ![n, 0, 0] ![1, 256, 1] i3) (ix3 0 r 0))
      (lg B (View.ld (Val := Elt Ideal) (e' := .bf16) Q (Rect.unit ![0, o] ![256, 128] i0)) (View.ld (Val := Elt Ideal) (e' := .bf16) K (Rect.unit ![0, o] ![512, 128] i1)) r))
      * View.ld (Val := Elt Ideal) (e' := .f32) A (Rect.unit ![0, o] ![256, 128] i0) (ix2 r d)
      + ∑ s, Ideal.exp (lg B (View.ld (Val := Elt Ideal) (e' := .bf16) Q (Rect.unit ![0, o] ![256, 128] i0)) (View.ld (Val := Elt Ideal) (e' := .bf16) K (Rect.unit ![0, o] ![512, 128] i1)) r s
        - up (View.ld (Val := Elt Ideal) (e' := .f32) P (Rect.unit ![n, 0, 0] ![1, 256, 1] i3) (ix3 0 r 0))
      (lg B (View.ld (Val := Elt Ideal) (e' := .bf16) Q (Rect.unit ![0, o] ![256, 128] i0)) (View.ld (Val := Elt Ideal) (e' := .bf16) K (Rect.unit ![0, o] ![512, 128] i1)) r))
        * View.ld (Val := Elt Ideal) (e' := .bf16) V (Rect.unit ![0, o] ![512, 128] i1) (ix2 s d)
      = stA Q K V B P A y := by
  have hb : o + d.val < 1024 := by omega
  obtain rfl := idx2 r ⟨o + d.val, hb⟩ y h0 h1
  have e : hd ⟨o + d.val, by omega⟩ = h := Fin.ext (by show (o + d.val) / 128 = h.val; omega)
  rw [lg_ld Q K B h o r i0 i1 ho, st_ld P h n r i3 hn, row_ld A o r i0 d ⟨o + d.val, by omega⟩ rfl]
  unfold stA
  have eA : hd ((ix2 r ⟨o + d.val, by omega⟩ : S256x1024.Idx) 1) = h := e
  rw [eA]
  refine congrArg (_ + ·) (Finset.sum_congr rfl fun s _ => ?_)
  rw [val_ld V o i1 s d ⟨o + d.val, by omega⟩ rfl]
  rfl

theorem piece_o (d : Fin 128) (y : S256x1024.Idx) (h0 : (y 0).val = r.val) (h1 : (y 1).val = o + d.val) :
    Ideal.div (View.ld (Val := Elt Ideal) (e' := .f32) A (Rect.unit ![0, o] ![256, 128] i0) (ix2 r d)) (View.ld (Val := Elt Ideal) (e' := .f32) L (Rect.unit ![n, 0, 0] ![1, 256, 1] i3) (ix3 0 r 0))
      = stO L A y := by
  have hb : o + d.val < 1024 := by omega
  obtain rfl := idx2 r ⟨o + d.val, hb⟩ y h0 h1
  have eA : hd ((ix2 r ⟨o + d.val, by omega⟩ : S256x1024.Idx) 1) = h := Fin.ext (by show (o + d.val) / 128 = h.val; omega)
  rw [st_ld L h n r i3 hn, row_ld A o r i0 d ⟨o + d.val, by omega⟩ rfl]
  unfold stO
  rw [eA]
  rfl

/-- The quotient of what the point itself has just computed. -/
theorem quot (d : Fin 128) (y : S256x1024.Idx) (h0 : (y 0).val = r.val) (h1 : (y 1).val = o + d.val) (x z : EReal) (L' : FVec Ideal S8x256x1 .f32)
    (A' : FVec Ideal S256x1024 .f32) (hx : x = A' y) (hz : z = L' (ix3 h r 0)) : Ideal.div x z = stO L' A' y := by
  have e : hd (y 1) = h := Fin.ext (by show (y 1).val / 128 = h.val; omega)
  have e0 : @Eq (Fin 256) (y 0) r := Fin.ext h0
  unfold stO
  rw [e, e0, hx, hz]
end

section
variable (m : (ℓ : Loc nD τ sig) → Buf (Elt Ideal) ℓ) (c : Dev nD) (t : Fin cfg0.N)

set_option maxHeartbeats 4000000 in
theorem m_A (h0 : t.val % 32 = 0) (h1 : 2 * (t.val % 32) ≤ t.val / 32 % 64) (h2 : ¬t.val % 32 = 31) (y : S8x256x1.Idx) :
    (outsAt0 m c t.val t.isLt).2.1 y = stM (iblk m c 0 t) (iblk m c 1 t) (iblk m c 3 t) k0_pay1 y := by
  rw [outsAt0_A m c t h0 h1 h2]
  frame_out
  simp (discharger := decide) only [↓View.readCov_skip, ↓View.readCov_cons_toLoadRect, ↓View.readCov_fill]
  refine (canon_covered _ [_, _, _, _, _, _, _, _] y ?_).trans ?_
  · exact View.cover_of_tiled_head _ _ _ (by rfl) _
  canon_tiles x h
  all_goals try simp only [read_unread_whole]
  · idx_vars x
    obtain rfl : x0 = 0 := Subsingleton.elim _ _
    obtain rfl : x2 = 0 := Subsingleton.elim _ _
    exact (head_m7 _ _ _ _ x1).trans (piece_m _ _ _ _ 7 896 7 rfl rfl x1 _ _ _ y h0 h1)
  · idx_vars x
    obtain rfl : x0 = 0 := Subsingleton.elim _ _
    obtain rfl : x2 = 0 := Subsingleton.elim _ _
    exact (head_m6 _ _ _ _ x1).trans (piece_m _ _ _ _ 6 768 6 rfl rfl x1 _ _ _ y h0 h1)
  · idx_vars x
    obtain rfl : x0 = 0 := Subsingleton.elim _ _
    obtain rfl : x2 = 0 := Subsingleton.elim _ _
    exact (head_m5 _ _ _ _ x1).trans (piece_m _ _ _ _ 5 640 5 rfl rfl x1 _ _ _ y h0 h1)
  · idx_vars x
    obtain rfl : x0 = 0 := Subsingleton.elim _ _
    obtain rfl : x2 = 0 := Subsingleton.elim _ _
    exact (head_m4 _ _ _ _ x1).trans (piece_m _ _ _ _ 4 512 4 rfl rfl x1 _ _ _ y h0 h1)
  · idx_vars x
    obtain rfl : x0 = 0 := Subsingleton.elim _ _
    obtain rfl : x2 = 0 := Subsingleton.elim _ _
    exact (head_m3 _ _ _ _ x1).trans (piece_m _ _ _ _ 3 384 3 rfl rfl x1 _ _ _ y h0 h1)
  · idx_vars x
    obtain rfl : x0 = 0 := Subsingleton.elim _ _
    obtain rfl : x2 = 0 := Subsingleton.elim _ _
    exact (head_m2 _ _ _ _ x1).trans (piece_m _ _ _ _ 2 256 2 rfl rfl x1 _ _ _ y h0 h1)
  · idx_vars x
    obtain rfl : x0 = 0 := Subsingleton.elim _ _
    obtain rfl : x2 = 0 := Subsingleton.elim _ _
    exact (head_m1 _ _ _ _ x1).trans (piece_m _ _ _ _ 1 128 1 rfl rfl x1 _ _ _ y h0 h1)
  · idx_vars x
    obtain rfl : x0 = 0 := Subsingleton.elim _ _
    obtain rfl : x2 = 0 := Subsingleton.elim _ _
    exact (head_m0 _ _ _ _ x1).trans (piece_m _ _ _ _ 0 0 0 rfl rfl x1 _ _ _ y h0 h1)

set_option maxHeartbeats 4000000 in
theorem l_A (h0 : t.val % 32 = 0) (h1 : 2 * (t.val % 32) ≤ t.val / 32 % 64) (h2 : ¬t.val % 32 = 31) (y : S8x256x1.Idx) :
    (outsAt0 m c t.val t.isLt).2.2.1 y = stL (iblk m c 0 t) (iblk m c 1 t) (iblk m c 3 t) k0_pay1 k0_pay2 y := by
  rw [outsAt0_A m c t h0 h1 h2]
  frame_out
  simp (discharger := decide) only [↓View.readCov_skip, ↓View.readCov_cons_toLoadRect, ↓View.readCov_fill]
  refine (canon_covered _ [_, _, _, _, _, _, _, _] y ?_).trans ?_
  · exact View.cover_of_tiled_head _ _ _ (by rfl) _
  canon_tiles x h
  all_goals try simp only [read_unread_whole]
  · idx_vars x
    obtain rfl : x0 = 0 := Subsingleton.elim _ _
    obtain rfl : x2 = 0 := Subsingleton.elim _ _
    exact (head_l7 _ _ _ _ _ x1).trans (piece_l _ _ _ _ _ 7 896 7 rfl rfl x1 _ _ _ y h0 h1)
  · idx_vars x
    obtain rfl : x0 = 0 := Subsingleton.elim _ _
    obtain rfl : x2 = 0 := Subsingleton.elim _ _
    exact (head_l6 _ _ _ _ _ x1).trans (piece_l _ _ _ _ _ 6 768 6 rfl rfl x1 _ _ _ y h0 h1)
  · idx_vars x
    obtain rfl : x0 = 0 := Subsingleton.elim _ _
    obtain rfl : x2 = 0 := Subsingleton.elim _ _
    exact (head_l5 _ _ _ _ _ x1).trans (piece_l _ _ _ _ _ 5 640 5 rfl rfl x1 _ _ _ y h0 h1)
  · idx_vars x
    obtain rfl : x0 = 0 := Subsingleton.elim _ _
    obtain rfl : x2 = 0 := Subsingleton.elim _ _
    exact (head_l4 _ _ _ _ _ x1).trans (piece_l _ _ _ _ _ 4 512 4 rfl rfl x1 _ _ _ y h0 h1)
  · idx_vars x
    obtain rfl : x0 = 0 := Subsingleton.elim _ _
    obtain rfl : x2 = 0 := Subsingleton.elim _ _
    exact (head_l3 _ _ _ _ _ x1).trans (piece_l _ _ _ _ _ 3 384 3 rfl rfl x1 _ _ _ y h0 h1)
  · idx_vars x
    obtain rfl : x0 = 0 := Subsingleton.elim _ _
    obtain rfl : x2 = 0 := Subsingleton.elim _ _
    exact (head_l2 _ _ _ _ _ x1).trans (piece_l _ _ _ _ _ 2 256 2 rfl rfl x1 _ _ _ y h0 h1)
  · idx_vars x
    obtain rfl : x0 = 0 := Subsingleton.elim _ _
    obtain rfl : x2 = 0 := Subsingleton.elim _ _
    exact (head_l1 _ _ _ _ _ x1).trans (piece_l _ _ _ _ _ 1 128 1 rfl rfl x1 _ _ _ y h0 h1)
  · idx_vars x
    obtain rfl : x0 = 0 := Subsingleton.elim _ _
    obtain rfl : x2 = 0 := Subsingleton.elim _ _
    exact (head_l0 _ _ _ _ _ x1).trans (piece_l _ _ _ _ _ 0 0 0 rfl rfl x1 _ _ _ y h0 h1)

set_option maxHeartbeats 4000000 in
theorem a_A (h0 : t.val % 32 = 0) (h1 : 2 * (t.val % 32) ≤ t.val / 32 % 64) (h2 : ¬t.val % 32 = 31) (y : S256x1024.Idx) :
    (outsAt0 m c t.val t.isLt).2.2.2 y = stA (iblk m c 0 t) (iblk m c 1 t) (iblk m c 2 t) (iblk m c 3 t) k0_pay1 k0_pay3 y := by
  rw [outsAt0_A m c t h0 h1 h2]
  frame_out
  simp (discharger := decide) only [↓View.readCov_skip, ↓View.readCov_cons_toLoadRect, ↓View.readCov_fill]
  refine (canon_covered _ [_, _, _, _, _, _, _, _] y ?_).trans ?_
  · exact View.cover_of_tiled_head _ _ _ (by rfl) _
  canon_tiles x h
  all_goals try simp only [read_unread_whole]
  · idx_vars x
    exact (head_a7 _ _ _ _ _ _ x0 x1).trans (piece_a _ _ _ _ _ _ 7 896 7 rfl rfl x0 _ _ _ x1 y h0 (h1.trans (by omega)))
  · idx_vars x
    exact (head_a6 _ _ _ _ _ _ x0 x1).trans (piece_a _ _ _ _ _ _ 6 768 6 rfl rfl x0 _ _ _ x1 y h0 (h1.trans (by omega)))
  · idx_vars x
    exact (head_a5 _ _ _ _ _ _ x0 x1).trans (piece_a _ _ _ _ _ _ 5 640 5 rfl rfl x0 _ _ _ x1 y h0 (h1.trans (by omega)))
  · idx_vars x
    exact (head_a4 _ _ _ _ _ _ x0 x1).trans (piece_a _ _ _ _ _ _ 4 512 4 rfl rfl x0 _ _ _ x1 y h0 (h1.trans (by omega)))
  · idx_vars x
    exact (head_a3 _ _ _ _ _ _ x0 x1).trans (piece_a _ _ _ _ _ _ 3 384 3 rfl rfl x0 _ _ _ x1 y h0 (h1.trans (by omega)))
  · idx_vars x
    exact (head_a2 _ _ _ _ _ _ x0 x1).trans (piece_a _ _ _ _ _ _ 2 256 2 rfl rfl x0 _ _ _ x1 y h0 (h1.trans (by omega)))
  · idx_vars x
    exact (head_a1 _ _ _ _ _ _ x0 x1).trans (piece_a _ _ _ _ _ _ 1 128 1 rfl rfl x0 _ _ _ x1 y h0 (h1.trans (by omega)))
  · idx_vars x
    exact (head_a0 _ _ _ _ _ _ x0 x1).trans (piece_a _ _ _ _ _ _ 0 0 0 rfl rfl x0 _ _ _ x1 y h0 (h1.trans (by omega)))

set_option maxHeartbeats 4000000 in
theorem m_D (h0 : ¬t.val % 32 = 0) (h1 : 2 * (t.val % 32) ≤ t.val / 32 % 64) (h2 : ¬t.val % 32 = 31) (y : S8x256x1.Idx) :
    (outsAt0 m c t.val t.isLt).2.1 y = stM (iblk m c 0 t) (iblk m c 1 t) (iblk m c 3 t) (outsAt0 m c (t.val - 1) (Nat.lt_of_le_of_lt (Nat.sub_le _ _) t.isLt)).2.1 y := by
  rw [outsAt0_D m c t h0 h1 h2]
  frame_out
  canon_tiles x h
  all_goals try simp only [read_unread_whole]
  · idx_vars x
    obtain rfl : x0 = 0 := Subsingleton.elim _ _
    obtain rfl : x2 = 0 := Subsingleton.elim _ _
    exact (head_m7 _ _ _ _ x1).trans (piece_m _ _ _ _ 7 896 7 rfl rfl x1 _ _ _ y h0 h1)
  · idx_vars x
    obtain rfl : x0 = 0 := Subsingleton.elim _ _
    obtain rfl : x2 = 0 := Subsingleton.elim _ _
    exact (head_m6 _ _ _ _ x1).trans (piece_m _ _ _ _ 6 768 6 rfl rfl x1 _ _ _ y h0 h1)
  · idx_vars x
    obtain rfl : x0 = 0 := Subsingleton.elim _ _
    obtain rfl : x2 = 0 := Subsingleton.elim _ _
    exact (head_m5 _ _ _ _ x1).trans (piece_m _ _ _ _ 5 640 5 rfl rfl x1 _ _ _ y h0 h1)
  · idx_vars x
    obtain rfl : x0 = 0 := Subsingleton.elim _ _
    obtain rfl : x2 = 0 := Subsingleton.elim _ _
    exact (head_m4 _ _ _ _ x1).trans (piece_m _ _ _ _ 4 512 4 rfl rfl x1 _ _ _ y h0 h1)
  · idx_vars x
    obtain rfl : x0 = 0 := Subsingleton.elim _ _
    obtain rfl : x2 = 0 := Subsingleton.elim _ _
    exact (head_m3 _ _ _ _ x1).trans (piece_m _ _ _ _ 3 384 3 rfl rfl x1 _ _ _ y h0 h1)
  · idx_vars x
    obtain rfl : x0 = 0 := Subsingleton.elim _ _
    obtain rfl : x2 = 0 := Subsingleton.elim _ _
    exact (head_m2 _ _ _ _ x1).trans (piece_m _ _ _ _ 2 256 2 rfl rfl x1 _ _ _ y h0 h1)
  · idx_vars x
    obtain rfl : x0 = 0 := Subsingleton.elim _ _
    obtain rfl : x2 = 0 := Subsingleton.elim _ _
    exact (head_m1 _ _ _ _ x1).trans (piece_m _ _ _ _ 1 128 1 rfl rfl x1 _ _ _ y h0 h1)
  · idx_vars x
    obtain rfl : x0 = 0 := Subsingleton.elim _ _
    obtain rfl : x2 = 0 := Subsingleton.elim _ _
    exact (head_m0 _ _ _ _ x1).trans (piece_m _ _ _ _ 0 0 0 rfl rfl x1 _ _ _ y h0 h1)

set_option maxHeartbeats 4000000 in
theorem l_D (h0 : ¬t.val % 32 = 0) (h1 : 2 * (t.val % 32) ≤ t.val / 32 % 64) (h2 : ¬t.val % 32 = 31) (y : S8x256x1.Idx) :
    (outsAt0 m c t.val t.isLt).2.2.1 y = stL (iblk m c 0 t) (iblk m c 1 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 y := by
  rw [outsAt0_D m c t h0 h1 h2]
  frame_out
  canon_tiles x h
  all_goals try simp only [read_unread_whole]
  · idx_vars x
    obtain rfl : x0 = 0 := Subsingleton.elim _ _
    obtain rfl : x2 = 0 := Subsingleton.elim _ _
    exact (head_l7 _ _ _ _ _ x1).trans (piece_l _ _ _ _ _ 7 896 7 rfl rfl x1 _ _ _ y h0 h1)
  · idx_vars x
    obtain rfl : x0 = 0 := Subsingleton.elim _ _
    obtain rfl : x2 = 0 := Subsingleton.elim _ _
    exact (head_l6 _ _ _ _ _ x1).trans (piece_l _ _ _ _ _ 6 768 6 rfl rfl x1 _ _ _ y h0 h1)
  · idx_vars x
    obtain rfl : x0 = 0 := Subsingleton.elim _ _
    obtain rfl : x2 = 0 := Subsingleton.elim _ _
    exact (head_l5 _ _ _ _ _ x1).trans (piece_l _ _ _ _ _ 5 640 5 rfl rfl x1 _ _ _ y h0 h1)
  · idx_vars x
    obtain rfl : x0 = 0 := Subsingleton.elim _ _
    obtain rfl : x2 = 0 := Subsingleton.elim _ _
    exact (head_l4 _ _ _ _ _ x1).trans (piece_l _ _ _ _ _ 4 512 4 rfl rfl x1 _ _ _ y h0 h1)
  · idx_vars x
    obtain rfl : x0 = 0 := Subsingleton.elim _ _
    obtain rfl : x2 = 0 := Subsingleton.elim _ _
    exact (head_l3 _ _ _ _ _ x1).trans (piece_l _ _ _ _ _ 3 384 3 rfl rfl x1 _ _ _ y h0 h1)
  · idx_vars x
    obtain rfl : x0 = 0 := Subsingleton.elim _ _
    obtain rfl : x2 = 0 := Subsingleton.elim _ _
    exact (head_l2 _ _ _ _ _ x1).trans (piece_l _ _ _ _ _ 2 256 2 rfl rfl x1 _ _ _ y h0 h1)
  · idx_vars x
    obtain rfl : x0 = 0 := Subsingleton.elim _ _
    obtain rfl : x2 = 0 := Subsingleton.elim _ _
    exact (head_l1 _ _ _ _ _ x1).trans (piece_l _ _ _ _ _ 1 128 1 rfl rfl x1 _ _ _ y h0 h1)
  · idx_vars x
    obtain rfl : x0 = 0 := Subsingleton.elim _ _
    obtain rfl : x2 = 0 := Subsingleton.elim _ _
    exact (head_l0 _ _ _ _ _ x1).trans (piece_l _ _ _ _ _ 0 0 0 rfl rfl x1 _ _ _ y h0 h1)

set_option maxHeartbeats 4000000 in
theorem a_D (h0 : ¬t.val % 32 = 0) (h1 : 2 * (t.val % 32) ≤ t.val / 32 % 64) (h2 : ¬t.val % 32 = 31) (y : S256x1024.Idx) :
    (outsAt0 m c t.val t.isLt).2.2.2 y = stA (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.2 y := by
  rw [outsAt0_D m c t h0 h1 h2]
  frame_out
  canon_tiles x h
  all_goals try simp only [read_unread_whole]
  · idx_vars x
    exact (head_a7 _ _ _ _ _ _ x0 x1).trans (piece_a _ _ _ _ _ _ 7 896 7 rfl rfl x0 _ _ _ x1 y h0 (h1.trans (by omega)))
  · idx_vars x
    exact (head_a6 _ _ _ _ _ _ x0 x1).trans (piece_a _ _ _ _ _ _ 6 768 6 rfl rfl x0 _ _ _ x1 y h0 (h1.trans (by omega)))
  · idx_vars x
    exact (head_a5 _ _ _ _ _ _ x0 x1).trans (piece_a _ _ _ _ _ _ 5 640 5 rfl rfl x0 _ _ _ x1 y h0 (h1.trans (by omega)))
  · idx_vars x
    exact (head_a4 _ _ _ _ _ _ x0 x1).trans (piece_a _ _ _ _ _ _ 4 512 4 rfl rfl x0 _ _ _ x1 y h0 (h1.trans (by omega)))
  · idx_vars x
    exact (head_a3 _ _ _ _ _ _ x0 x1).trans (piece_a _ _ _ _ _ _ 3 384 3 rfl rfl x0 _ _ _ x1 y h0 (h1.trans (by omega)))
  · idx_vars x
    exact (head_a2 _ _ _ _ _ _ x0 x1).trans (piece_a _ _ _ _ _ _ 2 256 2 rfl rfl x0 _ _ _ x1 y h0 (h1.trans (by omega)))
  · idx_vars x
    exact (head_a1 _ _ _ _ _ _ x0 x1).trans (piece_a _ _ _ _ _ _ 1 128 1 rfl rfl x0 _ _ _ x1 y h0 (h1.trans (by omega)))
  · idx_vars x
    exact (head_a0 _ _ _ _ _ _ x0 x1).trans (piece_a _ _ _ _ _ _ 0 0 0 rfl rfl x0 _ _ _ x1 y h0 (h1.trans (by omega)))

set_option maxHeartbeats 4000000 in
theorem o_C (h0 : ¬t.val % 32 = 0) (h1 : ¬2 * (t.val % 32) ≤ t.val / 32 % 64) (h2 : t.val % 32 = 31) (y : S256x1024.Idx) :
    (outsAt0 m c t.val t.isLt).1 y = stO (outsAt0 m c (t.val - 1) (Nat.lt_of_le_of_lt (Nat.sub_le _ _) t.isLt)).2.2.1 (outsAt0 m c (t.val - 1) (Nat.lt_of_le_of_lt (Nat.sub_le _ _) t.isLt)).2.2.2 y := by
  rw [outsAt0_C m c t h0 h1 h2]
  frame_out
  canon_tiles x h
  all_goals try simp only [read_unread_whole]
  · idx_vars x
    exact (head_o7 _ _ x0 x1).trans (piece_o _ _ 7 896 7 rfl rfl x0 _ _ x1 y h0 (h1.trans (by omega)))
  · idx_vars x
    exact (head_o6 _ _ x0 x1).trans (piece_o _ _ 6 768 6 rfl rfl x0 _ _ x1 y h0 (h1.trans (by omega)))
  · idx_vars x
    exact (head_o5 _ _ x0 x1).trans (piece_o _ _ 5 640 5 rfl rfl x0 _ _ x1 y h0 (h1.trans (by omega)))
  · idx_vars x
    exact (head_o4 _ _ x0 x1).trans (piece_o _ _ 4 512 4 rfl rfl x0 _ _ x1 y h0 (h1.trans (by omega)))
  · idx_vars x
    exact (head_o3 _ _ x0 x1).trans (piece_o _ _ 3 384 3 rfl rfl x0 _ _ x1 y h0 (h1.trans (by omega)))
  · idx_vars x
    exact (head_o2 _ _ x0 x1).trans (piece_o _ _ 2 256 2 rfl rfl x0 _ _ x1 y h0 (h1.trans (by omega)))
  · idx_vars x
    exact (head_o1 _ _ x0 x1).trans (piece_o _ _ 1 128 1 rfl rfl x0 _ _ x1 y h0 (h1.trans (by omega)))
  · idx_vars x
    exact (head_o0 _ _ x0 x1).trans (piece_o _ _ 0 0 0 rfl rfl x0 _ _ x1 y h0 (h1.trans (by omega)))

set_option maxHeartbeats 4000000 in
theorem o_E (h0 : ¬t.val % 32 = 0) (h1 : 2 * (t.val % 32) ≤ t.val / 32 % 64) (h2 : t.val % 32 = 31) (y : S256x1024.Idx) :
    (outsAt0 m c t.val t.isLt).1 y = stO (stL (iblk m c 0 t) (iblk m c 1 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1) (stA (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.2) y := by
  rw [outsAt0_E m c t h0 h1 h2]
  frame_out
  simp (discharger := decide) only [↓View.readCov_skip, ↓View.readCov_cons_toLoadRect, ↓View.readCov_fill]
  canon_tiles x h
  all_goals try simp only [read_unread_whole]
  · idx_vars x
    refine (head_o7 _ _ x0 x1).trans (quot 7 896 7 rfl rfl x0 x1 y h0 (h1.trans (by omega)) _ _ _ _ ?_ ?_)
    · exact (head_a7 _ _ _ _ _ _ x0 x1).trans (piece_a _ _ _ _ _ _ 7 896 7 rfl rfl x0 _ _ _ x1 y h0 (h1.trans (by omega)))
    · exact (head_l7 _ _ _ _ _ x0).trans (piece_l _ _ _ _ _ 7 896 7 rfl rfl x0 _ _ _ _ rfl rfl)
  · idx_vars x
    refine (head_o6 _ _ x0 x1).trans (quot 6 768 6 rfl rfl x0 x1 y h0 (h1.trans (by omega)) _ _ _ _ ?_ ?_)
    · exact (head_a6 _ _ _ _ _ _ x0 x1).trans (piece_a _ _ _ _ _ _ 6 768 6 rfl rfl x0 _ _ _ x1 y h0 (h1.trans (by omega)))
    · exact (head_l6 _ _ _ _ _ x0).trans (piece_l _ _ _ _ _ 6 768 6 rfl rfl x0 _ _ _ _ rfl rfl)
  · idx_vars x
    refine (head_o5 _ _ x0 x1).trans (quot 5 640 5 rfl rfl x0 x1 y h0 (h1.trans (by omega)) _ _ _ _ ?_ ?_)
    · exact (head_a5 _ _ _ _ _ _ x0 x1).trans (piece_a _ _ _ _ _ _ 5 640 5 rfl rfl x0 _ _ _ x1 y h0 (h1.trans (by omega)))
    · exact (head_l5 _ _ _ _ _ x0).trans (piece_l _ _ _ _ _ 5 640 5 rfl rfl x0 _ _ _ _ rfl rfl)
  · idx_vars x
    refine (head_o4 _ _ x0 x1).trans (quot 4 512 4 rfl rfl x0 x1 y h0 (h1.trans (by omega)) _ _ _ _ ?_ ?_)
    · exact (head_a4 _ _ _ _ _ _ x0 x1).trans (piece_a _ _ _ _ _ _ 4 512 4 rfl rfl x0 _ _ _ x1 y h0 (h1.trans (by omega)))
    · exact (head_l4 _ _ _ _ _ x0).trans (piece_l _ _ _ _ _ 4 512 4 rfl rfl x0 _ _ _ _ rfl rfl)
  · idx_vars x
    refine (head_o3 _ _ x0 x1).trans (quot 3 384 3 rfl rfl x0 x1 y h0 (h1.trans (by omega)) _ _ _ _ ?_ ?_)
    · exact (head_a3 _ _ _ _ _ _ x0 x1).trans (piece_a _ _ _ _ _ _ 3 384 3 rfl rfl x0 _ _ _ x1 y h0 (h1.trans (by omega)))
    · exact (head_l3 _ _ _ _ _ x0).trans (piece_l _ _ _ _ _ 3 384 3 rfl rfl x0 _ _ _ _ rfl rfl)
  · idx_vars x
    refine (head_o2 _ _ x0 x1).trans (quot 2 256 2 rfl rfl x0 x1 y h0 (h1.trans (by omega)) _ _ _ _ ?_ ?_)
    · exact (head_a2 _ _ _ _ _ _ x0 x1).trans (piece_a _ _ _ _ _ _ 2 256 2 rfl rfl x0 _ _ _ x1 y h0 (h1.trans (by omega)))
    · exact (head_l2 _ _ _ _ _ x0).trans (piece_l _ _ _ _ _ 2 256 2 rfl rfl x0 _ _ _ _ rfl rfl)
  · idx_vars x
    refine (head_o1 _ _ x0 x1).trans (quot 1 128 1 rfl rfl x0 x1 y h0 (h1.trans (by omega)) _ _ _ _ ?_ ?_)
    · exact (head_a1 _ _ _ _ _ _ x0 x1).trans (piece_a _ _ _ _ _ _ 1 128 1 rfl rfl x0 _ _ _ x1 y h0 (h1.trans (by omega)))
    · exact (head_l1 _ _ _ _ _ x0).trans (piece_l _ _ _ _ _ 1 128 1 rfl rfl x0 _ _ _ _ rfl rfl)
  · idx_vars x
    refine (head_o0 _ _ x0 x1).trans (quot 0 0 0 rfl rfl x0 x1 y h0 (h1.trans (by omega)) _ _ _ _ ?_ ?_)
    · exact (head_a0 _ _ _ _ _ _ x0 x1).trans (piece_a _ _ _ _ _ _ 0 0 0 rfl rfl x0 _ _ _ x1 y h0 (h1.trans (by omega)))
    · exact (head_l0 _ _ _ _ _ x0).trans (piece_l _ _ _ _ _ 0 0 0 rfl rfl x0 _ _ _ _ rfl rfl)

end

end Cert.Attention

end
-- ==== Proof.Softmax.lean ====
/-
  A softmax taken block by block. With `m` any real number, the sums `Σ exp(s_j - m)` and `Σ exp(s_j - m) v_j` are
  `exp(-m)` times sums in which `m` does not occur; so a running sum may change its `m` at each block, and the quotient
  of the two sums does not depend on `m`.
-/
module

public import Idealize.ShloMosaic.PureOps
public import Idealize.ShloMosaic.Lib.Pointwise

@[expose] public section

noncomputable section

open Idealize.ShloMosaic

namespace Cert.Softmax

/-- The weight of a logit: its exponential, zero at minus infinity. -/
def weight (x : EReal) : ℝ := if x = ⊥ then 0 else Real.exp x.toReal

theorem weight_nonneg (x : EReal) : 0 ≤ weight x := by
  unfold weight; split
  · exact le_rfl
  · exact (Real.exp_pos _).le

theorem weight_bot : weight ⊥ = 0 := by simp [weight]

theorem weight_pos {x : EReal} (h : x ≠ ⊥) : 0 < weight x := by
  unfold weight; rw [if_neg h]; exact Real.exp_pos _

/-- The exponential of a difference is the weight times the exponential of the subtrahend's negative. -/
theorem exp_sub (x : EReal) (h : x ≠ ⊤) (μ : ℝ) :
    Ideal.exp (x - (μ : EReal)) = ((Real.exp (-μ) : ℝ) : EReal) * ((weight x : ℝ) : EReal) := by
  induction x using EReal.rec with
  | bot => rw [weight_bot, EReal.bot_sub]; simp only [EReal.coe_zero, mul_zero]; rfl
  | top => exact absurd rfl h
  | coe r =>
    have e : weight (r : EReal) = Real.exp r := by simp [weight]
    rw [e, ← EReal.coe_sub, ← EReal.coe_mul, ← Real.exp_add, neg_add_eq_sub]
    rfl

theorem mul_sum {ι : Type} (c : ℝ) (hc : 0 ≤ c) (t : Finset ι) (f : ι → EReal) :
    (c : EReal) * ∑ i ∈ t, f i = ∑ i ∈ t, (c : EReal) * f i := by
  classical
  induction t using Finset.induction_on with
  | empty => simp
  | insert a t ha ih =>
    rw [Finset.sum_insert ha, Finset.sum_insert ha,
      EReal.left_distrib_of_nonneg_of_ne_top (EReal.coe_nonneg.mpr hc) (EReal.coe_ne_top c), ih]

/-- The greatest of finitely many values is not infinity where none of them is. -/
theorem fold_ne_top {ι : Type} (t : Finset ι) (z : EReal) (hz : z ≠ ⊤) (f : ι → EReal) (h : ∀ i, f i ≠ ⊤) :
    Finset.fold max z f t ≠ ⊤ := by
  classical
  induction t using Finset.induction_on with
  | empty => simpa using hz
  | insert a t ha ih =>
    rw [Finset.fold_insert ha]
    rcases max_choice (f a) (Finset.fold max z f t) with e | e <;> rw [e]
    · exact h a
    · exact ih

theorem le_fold {ι : Type} (t : Finset ι) (z : EReal) (f : ι → EReal) (i : ι) (hi : i ∈ t) : f i ≤ Finset.fold max z f t :=
  Finset.le_fold_max (f i) |>.mpr (Or.inr ⟨i, hi, le_rfl⟩)

/-- The greatest of finitely many values is not minus infinity only where one of them is not. -/
theorem exists_ne_bot {ι : Type} (t : Finset ι) (f : ι → EReal) (h : Finset.fold max ⊥ f t ≠ ⊥) : ∃ i ∈ t, f i ≠ ⊥ := by
  by_contra hc
  push Not at hc
  refine h (le_bot_iff.mp ?_)
  rw [Finset.fold_max_le]
  exact ⟨le_rfl, fun i hi => (hc i hi).le⟩

/-- A running greatest value stays a real number. -/
theorem max_real {ι : Type} (t : Finset ι) (μ : ℝ) (z : EReal) (hz : z ≠ ⊤) (f : ι → EReal) (h : ∀ i, f i ≠ ⊤) :
    ∃ ν : ℝ, max (μ : EReal) (Finset.fold max z f t) = (ν : EReal) := by
  refine ⟨(max (μ : EReal) (Finset.fold max z f t)).toReal, (EReal.coe_toReal ?_ ?_).symm⟩
  · rcases max_choice (μ : EReal) (Finset.fold max z f t) with e | e <;> rw [e]
    · exact EReal.coe_ne_top μ
    · exact fold_ne_top t z hz f h
  · exact (lt_of_lt_of_le (EReal.bot_lt_coe μ) (le_max_left _ _)).ne'

/-- One block more: the sum so far, scaled to the new `ν`, plus the block's part. -/
theorem step {ι : Type} (t : Finset ι) (μ ν : ℝ) (X : EReal) (s v : ι → EReal) (h : ∀ i, s i ≠ ⊤) :
    Ideal.exp ((μ : EReal) - (ν : EReal)) * (((Real.exp (-μ) : ℝ) : EReal) * X) + ∑ i ∈ t, Ideal.exp (s i - (ν : EReal)) * v i
      = ((Real.exp (-ν) : ℝ) : EReal) * (X + ∑ i ∈ t, ((weight (s i) : ℝ) : EReal) * v i) := by
  have e : Ideal.exp ((μ : EReal) - (ν : EReal)) * (((Real.exp (-μ) : ℝ) : EReal) * X) = ((Real.exp (-ν) : ℝ) : EReal) * X := by
    rw [exp_sub _ (EReal.coe_ne_top μ), ← mul_assoc]
    congr 1
    have w : weight (μ : EReal) = Real.exp μ := by simp [weight]
    rw [w, ← EReal.coe_mul, ← EReal.coe_mul, mul_assoc, ← Real.exp_add, add_neg_cancel, Real.exp_zero, mul_one]
  rw [e, EReal.left_distrib_of_nonneg_of_ne_top (EReal.coe_nonneg.mpr (Real.exp_pos _).le) (EReal.coe_ne_top _),
    mul_sum _ (Real.exp_pos _).le]
  congr 1
  refine Finset.sum_congr rfl fun i _ => ?_
  rw [exp_sub _ (h i), mul_assoc]

/-- A scale common to both sums leaves the quotient. -/
theorem div_scale (c : ℝ) (hc : 0 < c) (x : EReal) (y : ℝ) (hy : 0 < y) :
    Ideal.div ((c : EReal) * x) ((c : EReal) * (y : EReal)) = x * ((y⁻¹ : ℝ) : EReal) := by
  have hp : 0 < c * y := mul_pos hc hy
  rw [← EReal.coe_mul, Ideal.div, if_neg (by exact_mod_cast hp.ne'), ← EReal.coe_inv, mul_comm (c : EReal) x, mul_assoc,
    ← EReal.coe_mul]
  congr 2
  field_simp

/-- The weights' sum, a real number; positive where one logit is not minus infinity. -/
theorem sum_pos {ι : Type} (t : Finset ι) (s : ι → EReal) (i : ι) (hi : i ∈ t) (h : s i ≠ ⊥) : 0 < ∑ j ∈ t, weight (s j) :=
  Finset.sum_pos' (fun j _ => weight_nonneg _) ⟨i, hi, weight_pos h⟩

theorem coe_sum {ι : Type} (t : Finset ι) (f : ι → ℝ) : ((∑ i ∈ t, f i : ℝ) : EReal) = ∑ i ∈ t, ((f i : ℝ) : EReal) := by
  classical
  induction t using Finset.induction_on with
  | empty => simp
  | insert a t ha ih => rw [Finset.sum_insert ha, Finset.sum_insert ha, EReal.coe_add, ih]

/-- The softmax of all logits at once, summed against `v`, is the quotient of the weighted sum and the weights' sum. -/
theorem whole {ι : Type} (t : Finset ι) (s v : ι → EReal) (ν : ℝ) (h : ∀ i, s i ≠ ⊤) (i : ι) (hi : i ∈ t) (hs : s i ≠ ⊥) :
    ∑ i ∈ t, v i * Ideal.div (Ideal.exp (s i - (ν : EReal))) (∑ j ∈ t, Ideal.exp (s j - (ν : EReal)))
      = (∑ i ∈ t, ((weight (s i) : ℝ) : EReal) * v i) * (((∑ j ∈ t, weight (s j))⁻¹ : ℝ) : EReal) := by
  have hp := sum_pos t s i hi hs
  have e : ∑ j ∈ t, Ideal.exp (s j - (ν : EReal))
      = ((Real.exp (-ν) : ℝ) : EReal) * ((∑ j ∈ t, weight (s j) : ℝ) : EReal) := by
    rw [coe_sum, mul_sum _ (Real.exp_pos _).le]
    exact Finset.sum_congr rfl fun j _ => exp_sub _ (h j) ν
  rw [e, mul_comm (∑ i ∈ t, _), mul_sum _ (inv_nonneg.mpr hp.le)]
  refine Finset.sum_congr rfl fun j _ => ?_
  rw [exp_sub _ (h j), div_scale _ (Real.exp_pos _) _ _ hp, mul_comm (v j), mul_comm ((weight (s j) : ℝ) : EReal), mul_assoc]

end Cert.Softmax

end
-- ==== Proof.AttnRef.lean ====
/-
  The reference's attention, read at an index: the logits, what the precondition says of them, and the weighted mean
  of the values.
-/
module

public import proofs.«01_k».proof.Defs
public import proofs.«01_k».proof.Proof.Gen.Reference6Ideal.Read
public import proofs.«01_k».proof.Proof.Softmax
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Attention

open Cert.Reference6Ideal Cert.Reference6Ideal.Read
open Cert.Reference6Ideal.Gen

theorem top_bits : Ideal.ofBits .f32 0x7F800000#32 = ⊤ := by simp [Ideal.ofBits, Ideal.ieee]

theorem bot_bits : Ideal.ofBits .f32 0xFF800000#32 = ⊥ := by simp [Ideal.ofBits, Ideal.ieee]

/-- The scale of the logits is a real number. -/
theorem scale_real : ∃ x : ℝ, Ideal.ofBits FTy.f32 1035273459#32 = (x : EReal) := by
  refine ⟨(Ideal.ofBits FTy.f32 1035273459#32).toReal, (EReal.coe_toReal ?_ ?_).symm⟩ <;>
    simp [Ideal.ofBits, Ideal.ieee, -EReal.coe_mul]

section
variable (q k v : FVec Ideal S16384x1024 .bf16) (b : FVec Ideal S32x16384x512 .bf16)

/-- The logit of head `h`, row `t` and key `s` of chunk `c`. -/
def gl (h : Fin 8) (t : Fin 16384) (c : Fin 32) (s : Fin 512) : EReal :=
  (∑ j : Fin 128, q (ix2 t ⟨h.val * 128 + j.val, by omega⟩) * k (ix2 ⟨c.val * 512 + s.val, by omega⟩ ⟨h.val * 128 + j.val, by omega⟩))
    * Ideal.ofBits FTy.f32 1035273459#32 + b (ix3 c t s)

/-- What the precondition says. -/
structure Seen : Prop where
  q : ∀ i, ∃ x : ℝ, q i = (x : EReal)
  k : ∀ i, ∃ x : ℝ, k i = (x : EReal)
  le : ∀ i, b i ≠ ⊤
  causal : ∀ (c : Fin 32) (t : Fin 16384) (s : Fin 512), t.val < c.val * 512 + s.val → b (ix3 c t s) = ⊥
  row : ∀ t : Fin 16384, ∃ (c : Fin 32) (s : Fin 512), b (ix3 c t s) ≠ ⊥

theorem cmp_olt {x y : EReal} (h : Ideal.cmp .olt x y = 1#1) : x < y := by
  by_contra hc
  simp [Ideal.cmp, hc] at h

theorem cmp_oeq {x y : EReal} (h : Ideal.cmp .oeq x y = 1#1) : x = y := by
  by_contra hc
  simp [Ideal.cmp, hc] at h

theorem lt_of_ogt {S : Shape} (x z : FVec Ideal S .f32) (i : S.Idx) (h : cmpf .ogt x z i = 1#1) : @LT.lt EReal _ (z i) (x i) := by
  have h' : Ideal.cmp .ogt (x i) (z i) = 1#1 := h
  by_contra hc
  simp [Ideal.cmp, hc] at h'

theorem real_of_abs {x : EReal} (h : max x (-x) < ⊤) : ∃ r : ℝ, x = (r : EReal) := by
  induction x using EReal.rec with
  | bot => simp at h
  | top => simp at h
  | coe r => exact ⟨r, rfl⟩

theorem word_le (c t s : ℕ) (hc : c < 32) (ht : t < 16384) (hs : s < 512)
    (h : IntOp.cmpi .sle (IntOp.addi (IntOp.muli (BitVec.ofNat 32 c) 512#32) (BitVec.ofNat 32 s)) (BitVec.ofNat 32 t) = 1#1) :
    c * 512 + s ≤ t := by
  have e : IntOp.addi (IntOp.muli (BitVec.ofNat 32 c) 512#32) (BitVec.ofNat 32 s) = BitVec.ofNat 32 (c * 512 + s) := by
    unfold IntOp.addi IntOp.muli
    rw [BitVec.ofNat_add, BitVec.ofNat_mul]
  rw [e] at h
  by_contra hc
  have h2 : (BitVec.ofNat 32 (c * 512 + s)).sle (BitVec.ofNat 32 t) = false := by
    rw [BitVec.sle_eq_decide, BitVec.toInt_eq_toNat_of_lt, BitVec.toInt_eq_toNat_of_lt] <;> simp <;> omega
  simp [IntOp.cmpi, h2] at h

theorem seen [Cert.Pre_rows_see_earlier_keys.Facts]
    (h1 : (Cert.Pre_rows_see_earlier_keys.fn (F := Ideal) q k v b).1 = fun _ => 1#1)
    (h2 : (Cert.Pre_rows_see_earlier_keys.fn (F := Ideal) q k v b).2.1 = fun _ => 1#1)
    (h3 : (Cert.Pre_rows_see_earlier_keys.fn (F := Ideal) q k v b).2.2.1 = fun _ => 1#1)
    (h4 : (Cert.Pre_rows_see_earlier_keys.fn (F := Ideal) q k v b).2.2.2.1 = fun _ => 1#1)
    (h5 : (Cert.Pre_rows_see_earlier_keys.fn (F := Ideal) q k v b).2.2.2.2 = fun _ => 1#1) : Seen q k b where
  q i := by
    have h : Ideal.cmp .olt (max (q i) (-(q i))) (Ideal.ofBits .f32 0x7F800000#32) = 1#1 := congrFun h1 i
    exact real_of_abs (by rw [← top_bits]; exact cmp_olt h)
  k i := by
    have h : Ideal.cmp .olt (max (k i) (-(k i))) (Ideal.ofBits .f32 0x7F800000#32) = 1#1 := congrFun h2 i
    exact real_of_abs (by rw [← top_bits]; exact cmp_olt h)
  le i := by
    have h : Ideal.cmp .olt (b i) (Ideal.ofBits .f32 0x7F800000#32) = 1#1 := congrFun h4 i
    have := cmp_olt h
    rw [top_bits] at this
    exact this.ne
  causal c t s hlt := by
    have h : IntOp.ori (IntOp.cmpi .sle (IntOp.addi (IntOp.muli (BitVec.ofNat 32 c.val) 512#32) (BitVec.ofNat 32 s.val)) (BitVec.ofNat 32 t.val))
      (Ideal.cmp .oeq (b (ix3 c t s)) (Ideal.ofBits .f32 0xFF800000#32)) = 1#1 := congrFun h3 (ix3 c t s)
    have hn : IntOp.cmpi .sle (IntOp.addi (IntOp.muli (BitVec.ofNat 32 c.val) 512#32) (BitVec.ofNat 32 s.val)) (BitVec.ofNat 32 t.val) = 0#1 := by
      rcases BitVec.eq_zero_or_eq_one (IntOp.cmpi .sle (IntOp.addi (IntOp.muli (BitVec.ofNat 32 c.val) 512#32) (BitVec.ofNat 32 s.val)) (BitVec.ofNat 32 t.val)) with e | e
      · exact e
      · have := word_le c.val t.val s.val c.isLt t.isLt s.isLt e
        omega
    rw [hn] at h
    have h' : Ideal.cmp .oeq (b (ix3 c t s)) (Ideal.ofBits .f32 0xFF800000#32) = 1#1 := by
      simpa [IntOp.ori] using h
    rw [← bot_bits]
    exact cmp_oeq h'
  row t := by
    unfold Cert.Pre_rows_see_earlier_keys.fn Cert.Pre_rows_see_earlier_keys.fn_part1 at h5
    dsimp only at h5
    have hgt := lt_of_ogt _ _ _ (congrFun h5 (ix1 t))
    rw [Host.reduce_eq_fold] at hgt
    have hz : (constant (F := Ideal) Cert.Pre_rows_see_earlier_keys.S_ .f32 0xFF800000#32)
      (Shape.Idx.first Cert.Pre_rows_see_earlier_keys.Facts.h_S_) = (⊥ : EReal) := bot_bits
    rw [hz] at hgt
    replace hgt := ne_bot_of_gt hgt
    obtain ⟨i, hi, hne⟩ := Cert.Softmax.exists_ne_bot _ _ hgt
    have hd := (Finset.mem_filter.mp hi).2
    idx_vars i
    have e0 : i0 = t := by
      have h0 := congrArg (fun y : Cert.Pre_rows_see_earlier_keys.S16384.Idx => (y 0).val) hd
      dsimp only at h0
      rw [Shape.ReducesTo.drop_apply_val_of_eq _ _ 0 0] at h0
      exact Fin.ext h0
    subst e0
    refine ⟨⟨i1.val / 512, by omega⟩, ⟨i1.val % 512, by omega⟩, ?_⟩
    intro hb
    apply hne
    rw [← hb]
    pointwise

theorem logit (t : Fin 16384) (h : Fin 8) (s : Fin 16384) : val_main_v15 (F := Ideal) q k b (ix3 t h s)
    = gl q k b h t ⟨s.val / 512, by omega⟩ ⟨s.val % 512, by omega⟩ := by
  have es : (⟨(⟨s.val / 512, by omega⟩ : Fin 32).val * 512 + (⟨s.val % 512, by omega⟩ : Fin 512).val, by dsimp only; omega⟩ : Fin 16384) = s :=
    Fin.ext (by dsimp only; omega)
  unfold gl
  rw [es]
  pointwise [val_main_v15, val_main_v14, val_main_v13, val_main_v12, val_main_v11, val_main_v10, val_main_v9, val_main_v8, val_main_v7,
    val_main_v6, val_main_v5, val_main_v4, val_main_v3, val_main_v2, val_main_v1, val_main_v0, val_main_cst]
  refine congrArg (· * _ + _) (Finset.sum_congr rfl fun j _ => mul_comm _ _)

theorem exps (t : Fin 16384) (h : Fin 8) (s : Fin 16384) : val_main_v22 (F := Ideal) q k b (ix3 t h s)
    = Ideal.exp (val_main_v15 (F := Ideal) q k b (ix3 t h s) - val_main_v18 (F := Ideal) q k b (ix2 t h)) := by
  pointwise [val_main_v22, val_main_v21, val_main_v20, val_main_v19]

theorem probs (t : Fin 16384) (h : Fin 8) (s : Fin 16384) : val_main_v26 (F := Ideal) q k b (ix3 t h s)
    = Ideal.div (val_main_v22 (F := Ideal) q k b (ix3 t h s)) (∑ x : Fin 16384, val_main_v22 (F := Ideal) q k b (ix3 t h x)) := by
  pointwise [val_main_v26, val_main_v25, val_main_v24, val_main_v23, val_main_cst_2]

theorem mean (t : Fin 16384) (h : Fin 8) (d : Fin 128) : val_main_v27 (F := Ideal) q k v b (ix3 h d t)
    = ∑ x : Fin 16384, v (ix2 x ⟨h.val * 128 + d.val, by omega⟩) * val_main_v26 (F := Ideal) q k b (ix3 t h x) := by
  pointwise [val_main_v27, val_main_v5, val_main_v4]

theorem result (t : Fin 16384) (D : Fin 1024) : val_main_v30 (F := Ideal) q k v b (ix2 t D)
    = val_main_v27 (F := Ideal) q k v b (ix3 ⟨D.val / 128, by omega⟩ ⟨D.val % 128, by omega⟩ t) := by
  pointwise [val_main_v30, val_main_v29, val_main_v28]

variable {q k b} in
/-- A logit is a real number plus the bias. -/
theorem gl_add (hs : Seen q k b) (h : Fin 8) (t : Fin 16384) (c : Fin 32) (s : Fin 512) : ∃ x : ℝ, gl q k b h t c s = (x : EReal) + b (ix3 c t s) := by
  choose Q hQ using hs.q
  choose K hK using hs.k
  obtain ⟨z, hz⟩ := scale_real
  refine ⟨(∑ j : Fin 128, Q (ix2 t ⟨h.val * 128 + j.val, by omega⟩) * K (ix2 ⟨c.val * 512 + s.val, by omega⟩ ⟨h.val * 128 + j.val, by omega⟩)) * z, ?_⟩
  unfold gl
  rw [hz, EReal.coe_mul, Cert.Softmax.coe_sum]
  refine congrArg (· * _ + _) (Finset.sum_congr rfl fun j _ => ?_)
  rw [EReal.coe_mul, hQ, hK]

variable {q k b} in
theorem gl_ne_top (hs : Seen q k b) (h : Fin 8) (t : Fin 16384) (c : Fin 32) (s : Fin 512) : gl q k b h t c s ≠ ⊤ := by
  obtain ⟨x, hx⟩ := gl_add hs h t c s
  rw [hx]
  exact EReal.add_ne_top (EReal.coe_ne_top x) (hs.le _)

variable {q k b} in
theorem gl_ne_bot (hs : Seen q k b) (h : Fin 8) (t : Fin 16384) (c : Fin 32) (s : Fin 512) (hb : b (ix3 c t s) ≠ ⊥) : gl q k b h t c s ≠ ⊥ := by
  obtain ⟨x, hx⟩ := gl_add hs h t c s
  rw [hx]
  exact fun e => (EReal.add_eq_bot_iff.mp e).elim (EReal.coe_ne_bot x) hb

variable {q k b} in
theorem gl_bot (hs : Seen q k b) (h : Fin 8) (t : Fin 16384) (c : Fin 32) (s : Fin 512) (hlt : t.val < c.val * 512 + s.val) : gl q k b h t c s = ⊥ := by
  obtain ⟨x, hx⟩ := gl_add hs h t c s
  rw [hx, hs.causal c t s hlt, EReal.add_bot]

variable {q k b} in
/-- The greatest logit of a row is a real number. -/
theorem best_real (hs : Seen q k b) (t : Fin 16384) (h : Fin 8) : ∃ ν : ℝ, val_main_v18 (F := Ideal) q k b (ix2 t h) = (ν : EReal) := by
  have e17 : val_main_v17 (F := Ideal) (ix2 t h) = (⊥ : EReal) := (val_main_v17_apply _).trans bot_bits
  have hz : (val_main_cst_0 (F := Ideal)) (Shape.Idx.first h_S_) = (⊥ : EReal) := bot_bits
  have top (i : S16384x8x16384.Idx) : val_main_v15 (F := Ideal) q k b i ≠ (⊤ : EReal) := by
    idx_vars i
    rw [logit]
    exact gl_ne_top hs _ _ _ _
  have e18 : val_main_v18 (F := Ideal) q k b (ix2 t h) = max (⊥ : EReal) (Finset.fold max (⊥ : EReal) (val_main_v15 (F := Ideal) q k b)
      (Finset.univ.filter fun i => reducesTo_S16384x8x16384_S16384x8_d2.drop i = ix2 t h)) := by
    rw [val_main_v18_apply, e17]
    unfold val_main_v16
    rw [Host.reduce_eq_fold, hz]
    rfl
  rw [e18, max_eq_right bot_le]
  refine ⟨_, (EReal.coe_toReal (Cert.Softmax.fold_ne_top _ _ bot_ne_top _ top) ?_).symm⟩
  obtain ⟨c, s, hb⟩ := hs.row t
  have hne := gl_ne_bot hs h t c s hb
  refine ne_bot_of_gt (lt_of_lt_of_le (bot_lt_iff_ne_bot.mpr hne) ?_)
  have el : val_main_v15 (F := Ideal) q k b (ix3 t h ⟨c.val * 512 + s.val, by omega⟩) = gl q k b h t c s := by
    rw [logit]
    exact congrArg₂ (gl q k b h t) (Fin.ext (by dsimp only; omega)) (Fin.ext (by dsimp only; omega))
  rw [← el]
  refine Cert.Softmax.le_fold _ _ _ _ (Finset.mem_filter.mpr ⟨Finset.mem_univ _, ?_⟩)
  refine funext fun a => match a with
    | ⟨0, _⟩ => Fin.ext ?_
    | ⟨1, _⟩ => Fin.ext ?_
  · exact Shape.ReducesTo.drop_apply_val_of_eq reducesTo_S16384x8x16384_S16384x8_d2 _ 0 0
  · exact Shape.ReducesTo.drop_apply_val_of_eq reducesTo_S16384x8x16384_S16384x8_d2 _ 1 1

theorem gl_split (h : Fin 8) (t : Fin 16384) (c : Fin 32) (s : Fin 512) (hl : c.val * 512 + s.val < 16384) :
    gl q k b h t ⟨(c.val * 512 + s.val) / 512, by omega⟩ ⟨(c.val * 512 + s.val) % 512, by omega⟩ = gl q k b h t c s :=
  congrArg₂ (gl q k b h t) (Fin.ext (by dsimp only; omega)) (Fin.ext (by dsimp only; omega))

variable {q k b} in
/-- The reference's result: the mean of the values by the weights of the logits. -/
theorem value (hs : Seen q k b) (t : Fin 16384) (D : Fin 1024) (h : Fin 8) (hh : h.val = D.val / 128) : val_main_v30 (F := Ideal) q k v b (ix2 t D)
    = (∑ c : Fin 32, ∑ s : Fin 512, ((Cert.Softmax.weight (gl q k b h t c s) : ℝ) : EReal) * v (ix2 ⟨c.val * 512 + s.val, by omega⟩ D))
      * (((∑ c : Fin 32, ∑ s : Fin 512, Cert.Softmax.weight (gl q k b h t c s))⁻¹ : ℝ) : EReal) := by
  obtain ⟨ν, hν⟩ := best_real hs t h
  let L : Fin 16384 → EReal := fun x => gl q k b h t ⟨x.val / 512, by omega⟩ ⟨x.val % 512, by omega⟩
  have e22 (x : Fin 16384) : val_main_v22 (F := Ideal) q k b (ix3 t h x) = Ideal.exp (L x - (ν : EReal)) := by
    rw [exps, logit, hν]
  have e26 (x : Fin 16384) : val_main_v26 (F := Ideal) q k b (ix3 t h x) = Ideal.div (Ideal.exp (L x - (ν : EReal))) (∑ y, Ideal.exp (L y - (ν : EReal))) := by
    rw [probs, e22, Finset.sum_congr rfl fun y _ => e22 y]
  have eh : (⟨D.val / 128, by omega⟩ : Fin 8) = h := Fin.ext hh.symm
  have eD : (⟨h.val * 128 + (⟨D.val % 128, by omega⟩ : Fin 128).val, by dsimp only; omega⟩ : Fin 1024) = D := Fin.ext (by dsimp only; omega)
  rw [result, eh, mean, eD, Finset.sum_congr rfl fun x _ => congrArg (v (ix2 x D) * ·) (e26 x)]
  obtain ⟨c, s, hb⟩ := hs.row t
  have hne : L ⟨c.val * 512 + s.val, by omega⟩ ≠ ⊥ := by
    show gl q k b h t _ _ ≠ ⊥
    rw [gl_split _ _ _ _ _ _ _ (by omega)]
    exact gl_ne_bot hs h t c s hb
  rw [Cert.Softmax.whole Finset.univ L (fun x => v (ix2 x D)) ν (fun x => gl_ne_top hs _ _ _ _) _ (Finset.mem_univ _) hne]
  refine congrArg₂ (· * ·) (Fin.sum_mul_add_congr fun c s hl => ?_).symm (congrArg (fun x : ℝ => ((x⁻¹ : ℝ) : EReal)) (Fin.sum_mul_add_congr fun c s hl => ?_).symm)
  · exact congrArg (fun x => ((Cert.Softmax.weight x : ℝ) : EReal) * _) (gl_split q k b h t c s hl).symm
  · exact congrArg Cert.Softmax.weight (gl_split q k b h t c s hl).symm
end

end Cert.Attention

end
-- ==== Proof.Attention.lean ====
/-
  The attention kernel's result, read whole: over the chunks of keys the scratch buffers hold the running sums of the
  weights, up to one common factor, and the quotient at the last chunk is the reference's mean.
-/
module

public import proofs.«01_k».proof.Defs
public import proofs.«01_k».proof.Proof.Gen.Kernel6Ideal.Frame
public import proofs.«01_k».proof.Proof.Gen.Reference6Ideal.Read
public import proofs.«01_k».proof.Proof.AttnStep
public import proofs.«01_k».proof.Proof.AttnRef
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Attention

open Cert.Kernel6Ideal Cert.Kernel6Ideal.Gen
open Cert.Softmax (weight)

/-- One chunk further: the maximum, the sum of the weights and a weighted sum. -/
theorem advance (P L : EReal) (S : Fin 512 → EReal) (hS : ∀ s, S s ≠ ⊤) (μ : ℝ) (X : EReal) (hP : P = (μ : EReal))
    (hL : L = ((Real.exp (-μ) : ℝ) : EReal) * X) :
    ∃ ν : ℝ, up P S = (ν : EReal)
      ∧ Ideal.exp (P - up P S) * L + ∑ s, Ideal.exp (S s - up P S) = ((Real.exp (-ν) : ℝ) : EReal) * (X + ∑ s, ((weight (S s) : ℝ) : EReal))
      ∧ ∀ (A Y : EReal) (V : Fin 512 → EReal), A = ((Real.exp (-μ) : ℝ) : EReal) * Y →
        Ideal.exp (P - up P S) * A + ∑ s, Ideal.exp (S s - up P S) * V s
          = ((Real.exp (-ν) : ℝ) : EReal) * (Y + ∑ s, ((weight (S s) : ℝ) : EReal) * V s) := by
  obtain ⟨ν, hν⟩ := Cert.Softmax.max_real Finset.univ μ (Ideal.ofBits FTy.f32 4286578688#32) (by rw [show Ideal.ofBits FTy.f32 4286578688#32 = ⊥ from bot_bits]; exact bot_ne_top) S hS
  have hu : up P S = (ν : EReal) := by
    unfold up
    rw [hP]
    exact hν
  refine ⟨ν, hu, ?_, fun A Y V hA => ?_⟩
  · rw [hu, hP, hL]
    have e := Cert.Softmax.step Finset.univ μ ν X S (fun _ => 1) hS
    simp only [mul_one] at e
    exact e
  · rw [hu, hP, hA]
    exact Cert.Softmax.step Finset.univ μ ν Y S V hS

/-- The buffers of head `h`, row `r` hold the sum of the weights `X` and the weighted sums `Y`, up to one factor. -/
def Holds (h : Fin 8) (r : Fin 256) (M L : FVec Ideal S8x256x1 .f32) (A : FVec Ideal S256x1024 .f32) (X : EReal) (Y : Fin 1024 → EReal) : Prop :=
  ∃ μ : ℝ, M (ix3 h r 0) = (μ : EReal) ∧ L (ix3 h r 0) = ((Real.exp (-μ) : ℝ) : EReal) * X
    ∧ ∀ D, hd D = h → A (ix2 r D) = ((Real.exp (-μ) : ℝ) : EReal) * Y D

theorem holds_init (h : Fin 8) (r : Fin 256) : Holds h r (k0_pay1 (F := Ideal)) (k0_pay2 (F := Ideal)) (k0_pay3 (F := Ideal)) 0 (fun _ => 0) := by
  have e : k0_pay1 (F := Ideal) (ix3 h r 0) = Ideal.ofBits .f32 0xEFA18F08#32 := by pointwise [k0_pay1]
  refine ⟨(Ideal.ofBits .f32 0xEFA18F08#32).toReal, e.trans (EReal.coe_toReal ?_ ?_).symm, ?_, fun D _ => ?_⟩
  · simp [Ideal.ofBits, Ideal.ieee, -EReal.coe_mul]
  · simp [Ideal.ofBits, Ideal.ieee, -EReal.coe_mul]
  · rw [mul_zero]
    pointwise [k0_pay2]
  · rw [mul_zero]
    pointwise [k0_pay3]

theorem holds_step (Q : FVec Ideal S256x1024 .bf16) (K V : FVec Ideal S512x1024 .bf16) (B : FVec Ideal S1x256x512 .bf16)
    (M L : FVec Ideal S8x256x1 .f32) (A : FVec Ideal S256x1024 .f32) (h : Fin 8) (r : Fin 256) (X : EReal) (Y : Fin 1024 → EReal)
    (hs : ∀ s, bl Q K B h r s ≠ ⊤) (H : Holds h r M L A X Y) :
    Holds h r (stM Q K B M) (stL Q K B M L) (stA Q K V B M A) (X + ∑ s, ((weight (bl Q K B h r s) : ℝ) : EReal))
      (fun D => Y D + ∑ s, ((weight (bl Q K B h r s) : ℝ) : EReal) * V (ix2 s D)) := by
  obtain ⟨μ, hM, hL, hA⟩ := H
  obtain ⟨ν, h1, h2, h3⟩ := advance _ _ (bl Q K B h r) hs μ X hM hL
  refine ⟨ν, h1, h2, fun D hD => ?_⟩
  have := h3 _ _ (fun s => V (ix2 s D)) (hA D hD)
  subst hD
  exact this

section
variable (m : (ℓ : Loc nD τ sig) → Buf (Elt Ideal) ℓ)

theorem idx : ∀ t : Fin cfg0.N, win0_0.index t = ![t.val / 32, 0] ∧ win0_1.index t = ![min (t.val % 32) (t.val / 32 / 2), 0]
    ∧ win0_2.index t = ![min (t.val % 32) (t.val / 32 / 2), 0]
    ∧ win0_3.index t = ![min (t.val % 32) (t.val / 32 / 2), t.val / 32, 0]
    ∧ win0_4.index t = ![t.val / 32, 0] :=
  (by decide +kernel : ∀ t : Fin grid0.N, _)

theorem lt_N (t : Fin cfg0.N) : t.val < 2048 := t.isLt.trans_eq (by decide)

/-- Row `r` of the row tile of point `n`. -/
def rowOf (n : ℕ) (r : Fin 256) : Fin 16384 := ⟨n / 32 % 64 * 256 + r.val, by omega⟩

variable (c : Dev nD)

/-- The logits of the whole arrays. -/
def wl (h : Fin 8) (T : Fin 16384) (e : ℕ) (s : Fin 512) : EReal :=
  if he : e < 32 then gl (m ((c : Thread nD τ).loc main_arg0)) (m ((c : Thread nD τ).loc main_arg1)) (m ((c : Thread nD τ).loc main_arg3)) h T ⟨e, he⟩ s else ⊥

/-- The values of the whole array. -/
def wv (e : ℕ) (s : Fin 512) (D : Fin 1024) : EReal :=
  if he : e < 32 then m ((c : Thread nD τ).loc main_arg2) (ix2 ⟨e * 512 + s.val, by omega⟩ D) else 0

theorem block_logit (t : Fin cfg0.N) (h1 : 2 * (t.val % 32) ≤ t.val / 32 % 64) (h : Fin 8) (r : Fin 256) (s : Fin 512) :
    bl (iblk m c 0 t) (iblk m c 1 t) (iblk m c 3 t) h r s = wl m c h (rowOf t.val r) (t.val % 32) s := by
  have hN := lt_N t
  have hq : t.val / 32 % 64 = t.val / 32 := Nat.mod_eq_of_lt (by omega)
  have hm : min (t.val % 32) (t.val / 32 / 2) = t.val % 32 := by rw [hq] at h1; omega
  unfold wl
  rw [dif_pos (by omega)]
  unfold bl gl rowOf
  have e0 (j : Fin 1024) : iblk m c 0 t (ix2 r j) = m ((c : Thread nD τ).loc main_arg0) (ix2 ⟨t.val / 32 % 64 * 256 + r.val, by omega⟩ j) := by
    blk_point [iblk, V, idx t]
  have e1 (j : Fin 1024) : iblk m c 1 t (ix2 s j) = m ((c : Thread nD τ).loc main_arg1) (ix2 ⟨t.val % 32 * 512 + s.val, by omega⟩ j) := by
    blk_point [iblk, V, idx t]
  have e3 : iblk m c 3 t (ix3 0 r s) = m ((c : Thread nD τ).loc main_arg3) (ix3 ⟨t.val % 32, by omega⟩ ⟨t.val / 32 % 64 * 256 + r.val, by omega⟩ s) := by
    blk_point [iblk, V, idx t]
  refine congrArg₂ (· * _ + ·) (Finset.sum_congr rfl fun j _ => congrArg₂ (· * ·) (e0 _) (e1 _)) e3

theorem block_value (t : Fin cfg0.N) (h1 : 2 * (t.val % 32) ≤ t.val / 32 % 64) (s : Fin 512) (D : Fin 1024) :
    iblk m c 2 t (ix2 s D) = wv m c (t.val % 32) s D := by
  have hN := lt_N t
  have hq : t.val / 32 % 64 = t.val / 32 := Nat.mod_eq_of_lt (by omega)
  have hm : min (t.val % 32) (t.val / 32 / 2) = t.val % 32 := by rw [hq] at h1; omega
  unfold wv
  rw [dif_pos (by omega)]
  blk_point [iblk, V, idx t]

/-- What the buffers hold of head `h`, row `r` after point `n`. -/
def After (n : ℕ) (hn : n < cfg0.N) (h : Fin 8) (r : Fin 256) : Prop :=
  Holds h r (outsAt0 m c n hn).2.1 (outsAt0 m c n hn).2.2.1 (outsAt0 m c n hn).2.2.2
    (∑ e ∈ Finset.range (n % 32 + 1), ∑ s, ((weight (wl m c h (rowOf n r) e s) : ℝ) : EReal))
    (fun D => ∑ e ∈ Finset.range (n % 32 + 1), ∑ s, ((weight (wl m c h (rowOf n r) e s) : ℝ) : EReal) * wv m c e s D)

variable {m c} in
theorem wl_ne_top (hs : Seen (m ((c : Thread nD τ).loc main_arg0)) (m ((c : Thread nD τ).loc main_arg1)) (m ((c : Thread nD τ).loc main_arg3)))
    (h : Fin 8) (T : Fin 16384) (e : ℕ) (s : Fin 512) : wl m c h T e s ≠ ⊤ := by
  unfold wl
  split
  · exact gl_ne_top hs _ _ _ _
  · exact bot_ne_top

variable {m c} in
/-- A chunk of later keys has no weight. -/
theorem wl_later (hs : Seen (m ((c : Thread nD τ).loc main_arg0)) (m ((c : Thread nD τ).loc main_arg1)) (m ((c : Thread nD τ).loc main_arg3)))
    (h : Fin 8) (n : ℕ) (r : Fin 256) (s : Fin 512) (h1 : ¬2 * (n % 32) ≤ n / 32 % 64) : wl m c h (rowOf n r) (n % 32) s = ⊥ := by
  unfold wl
  split
  · refine gl_bot hs _ _ _ _ ?_
    unfold rowOf
    dsimp only
    omega
  · rfl

/-- A point that computes adds its chunk. -/
theorem chunk (t : Fin cfg0.N) (h1 : 2 * (t.val % 32) ≤ t.val / 32 % 64) (h : Fin 8) (r : Fin 256)
    (hs : Seen (m ((c : Thread nD τ).loc main_arg0)) (m ((c : Thread nD τ).loc main_arg1)) (m ((c : Thread nD τ).loc main_arg3)))
    (M L : FVec Ideal S8x256x1 .f32) (A : FVec Ideal S256x1024 .f32)
    (H : Holds h r M L A (∑ e ∈ Finset.range (t.val % 32), ∑ s, ((weight (wl m c h (rowOf t.val r) e s) : ℝ) : EReal))
      (fun D => ∑ e ∈ Finset.range (t.val % 32), ∑ s, ((weight (wl m c h (rowOf t.val r) e s) : ℝ) : EReal) * wv m c e s D)) :
    Holds h r (stM (iblk m c 0 t) (iblk m c 1 t) (iblk m c 3 t) M) (stL (iblk m c 0 t) (iblk m c 1 t) (iblk m c 3 t) M L)
      (stA (iblk m c 0 t) (iblk m c 1 t) (iblk m c 2 t) (iblk m c 3 t) M A)
      (∑ e ∈ Finset.range (t.val % 32 + 1), ∑ s, ((weight (wl m c h (rowOf t.val r) e s) : ℝ) : EReal))
      (fun D => ∑ e ∈ Finset.range (t.val % 32 + 1), ∑ s, ((weight (wl m c h (rowOf t.val r) e s) : ℝ) : EReal) * wv m c e s D) := by
  have e : bl (iblk m c 0 t) (iblk m c 1 t) (iblk m c 3 t) h r = wl m c h (rowOf t.val r) (t.val % 32) :=
    funext fun s => block_logit m c t h1 h r s
  have H' := holds_step (iblk m c 0 t) (iblk m c 1 t) (iblk m c 2 t) (iblk m c 3 t) M L A h r _ _
    (fun s => by rw [e]; exact wl_ne_top hs _ _ _ _) H
  rw [e] at H'
  simp only [block_value m c t h1] at H'
  simp only [Finset.sum_range_succ]
  exact H'

theorem state (hs : Seen (m ((c : Thread nD τ).loc main_arg0)) (m ((c : Thread nD τ).loc main_arg1)) (m ((c : Thread nD τ).loc main_arg3)))
    (h : Fin 8) (r : Fin 256) : ∀ (n : ℕ) (hn : n < cfg0.N), n % 32 ≠ 31 → After m c n hn h r := by
  have first (n : ℕ) (hn : n < cfg0.N) (h0 : n % 32 = 0) : After m c n hn h r := by
    have h1 : 2 * (n % 32) ≤ n / 32 % 64 := by omega
    have h2 : ¬n % 32 = 31 := by omega
    have H := chunk m c ⟨n, hn⟩ h1 h r hs _ _ _ (by
      have e0 : (⟨n, hn⟩ : Fin cfg0.N).val % 32 = 0 := h0
      simp only [e0, Finset.range_zero, Finset.sum_empty]
      exact holds_init h r)
    unfold After
    rw [show (outsAt0 m c n hn).2.1 = _ from funext (m_A m c ⟨n, hn⟩ h0 h1 h2), show (outsAt0 m c n hn).2.2.1 = _ from funext (l_A m c ⟨n, hn⟩ h0 h1 h2),
      show (outsAt0 m c n hn).2.2.2 = _ from funext (a_A m c ⟨n, hn⟩ h0 h1 h2)]
    exact H
  intro n
  induction n with
  | zero => exact fun hn _ => first 0 hn rfl
  | succ n ih =>
    intro hn h2
    by_cases h0 : (n + 1) % 32 = 0
    · exact first _ hn h0
    have er : rowOf n r = rowOf (n + 1) r := Fin.ext (by unfold rowOf; dsimp only; omega)
    have en : n % 32 + 1 = (n + 1) % 32 := by omega
    have H := ih (Nat.lt_of_succ_lt hn) (by omega)
    unfold After at H
    rw [er, en] at H
    by_cases h1 : 2 * ((n + 1) % 32) ≤ (n + 1) / 32 % 64
    · have H' := chunk m c ⟨n + 1, hn⟩ h1 h r hs _ _ _ H
      unfold After
      rw [show (outsAt0 m c (n + 1) hn).2.1 = _ from funext (m_D m c ⟨n + 1, hn⟩ h0 h1 h2), show (outsAt0 m c (n + 1) hn).2.2.1 = _ from funext (l_D m c ⟨n + 1, hn⟩ h0 h1 h2),
        show (outsAt0 m c (n + 1) hn).2.2.2 = _ from funext (a_D m c ⟨n + 1, hn⟩ h0 h1 h2)]
      exact H'
    · unfold After
      have eB := outsAt0_B m c ⟨n + 1, hn⟩ h0 h1 h2
      dsimp only [sout0_B_0] at eB
      simp only [Finset.sum_range_succ, wl_later hs h (n + 1) r _ h1, Cert.Softmax.weight_bot, EReal.coe_zero, zero_mul, Finset.sum_const_zero, add_zero]
      rw [eB]
      exact H

/-- The quotient of what is held at the end. -/
theorem quotient (T : Fin 16384) (r : Fin 256) (D : Fin 1024) (M L : FVec Ideal S8x256x1 .f32) (A : FVec Ideal S256x1024 .f32)
    (hs : Seen (m ((c : Thread nD τ).loc main_arg0)) (m ((c : Thread nD τ).loc main_arg1)) (m ((c : Thread nD τ).loc main_arg3)))
    (H : Holds (hd D) r M L A (∑ e ∈ Finset.range 32, ∑ s, ((weight (wl m c (hd D) T e s) : ℝ) : EReal))
      (fun D' => ∑ e ∈ Finset.range 32, ∑ s, ((weight (wl m c (hd D) T e s) : ℝ) : EReal) * wv m c e s D')) :
    stO L A (ix2 r D) = Cert.Reference6Ideal.Read.val_main_v30 (F := Ideal) (m ((c : Thread nD τ).loc main_arg0)) (m ((c : Thread nD τ).loc main_arg1))
      (m ((c : Thread nD τ).loc main_arg2)) (m ((c : Thread nD τ).loc main_arg3)) (ix2 T D) := by
  rw [value (m ((c : Thread nD τ).loc main_arg2)) hs T D (hd D) rfl]
  obtain ⟨μ, _, hL, hA⟩ := H
  unfold stO
  obtain ⟨e, s, hb⟩ := hs.row T
  have hp : 0 < ∑ e : Fin 32, ∑ s : Fin 512, weight (gl (m ((c : Thread nD τ).loc main_arg0)) (m ((c : Thread nD τ).loc main_arg1)) (m ((c : Thread nD τ).loc main_arg3)) (hd D) T e s) :=
    Finset.sum_pos' (fun e _ => Finset.sum_nonneg fun s _ => Cert.Softmax.weight_nonneg _)
      ⟨e, Finset.mem_univ _, Cert.Softmax.sum_pos _ _ s (Finset.mem_univ _) (gl_ne_bot hs _ _ _ _ hb)⟩
  have eX : (∑ e ∈ Finset.range 32, ∑ s, ((weight (wl m c (hd D) T e s) : ℝ) : EReal))
      = ((∑ e : Fin 32, ∑ s : Fin 512, weight (gl (m ((c : Thread nD τ).loc main_arg0)) (m ((c : Thread nD τ).loc main_arg1)) (m ((c : Thread nD τ).loc main_arg3)) (hd D) T e s) : ℝ) : EReal) := by
    rw [Finset.sum_range, Cert.Softmax.coe_sum]
    refine Finset.sum_congr rfl fun e _ => ?_
    rw [Cert.Softmax.coe_sum]
    refine Finset.sum_congr rfl fun s _ => ?_
    unfold wl
    rw [dif_pos e.isLt]
  have eY : (∑ e ∈ Finset.range 32, ∑ s, ((weight (wl m c (hd D) T e s) : ℝ) : EReal) * wv m c e s D)
      = ∑ e : Fin 32, ∑ s : Fin 512, ((weight (gl (m ((c : Thread nD τ).loc main_arg0)) (m ((c : Thread nD τ).loc main_arg1)) (m ((c : Thread nD τ).loc main_arg3)) (hd D) T e s) : ℝ) : EReal)
        * m ((c : Thread nD τ).loc main_arg2) (ix2 ⟨e.val * 512 + s.val, by omega⟩ D) := by
    rw [Finset.sum_range]
    refine Finset.sum_congr rfl fun e _ => Finset.sum_congr rfl fun s _ => ?_
    unfold wl wv
    rw [dif_pos e.isLt, dif_pos e.isLt]
  show Ideal.div (A (ix2 r D)) (L (ix3 (hd D) r 0)) = _
  have hD : A (ix2 r D) = ((Real.exp (-μ) : ℝ) : EReal) * (∑ e ∈ Finset.range 32, ∑ s, ((weight (wl m c (hd D) T e s) : ℝ) : EReal) * wv m c e s D) := hA D rfl
  rw [hL, hD, eX, eY, Cert.Softmax.div_scale _ (Real.exp_pos _) _ _ hp]

/-- What the last chunk's point writes back is the reference where the tile sits. -/
theorem point (t : Fin cfg0.N) (h2 : t.val % 32 = 31) (y : S256x1024.Idx)
    (hs : Seen (m ((c : Thread nD τ).loc main_arg0)) (m ((c : Thread nD τ).loc main_arg1)) (m ((c : Thread nD τ).loc main_arg3))) :
    (outsAt0 m c t.val t.isLt).1 y = Cert.Reference6Ideal.Read.val_main_v30 (F := Ideal) (m ((c : Thread nD τ).loc main_arg0)) (m ((c : Thread nD τ).loc main_arg1))
      (m ((c : Thread nD τ).loc main_arg2)) (m ((c : Thread nD τ).loc main_arg3)) (ix2 (rowOf t.val (y 0)) (y 1)) := by
  obtain ⟨n, hn⟩ := t
  dsimp only at h2
  have h0 : ¬n % 32 = 0 := by omega
  have H := state m c hs (hd (y 1)) (y 0) (n - 1) (Nat.lt_of_le_of_lt (Nat.sub_le _ _) hn) (by omega)
  have er : rowOf (n - 1) (y 0) = rowOf n (y 0) := Fin.ext (by unfold rowOf; dsimp only; omega)
  have en : (n - 1) % 32 + 1 = n % 32 := by omega
  unfold After at H
  rw [er, en] at H
  idx_vars y
  by_cases h1 : 2 * (n % 32) ≤ n / 32 % 64
  · rw [o_E m c ⟨n, hn⟩ h0 h1 h2]
    have H' := chunk m c ⟨n, hn⟩ h1 _ _ hs _ _ _ H
    simp only [h2] at H'
    exact quotient m c _ _ _ _ _ _ hs H'
  · rw [o_C m c ⟨n, hn⟩ h0 h1 h2]
    have H' : Holds (hd y1) y0 (outsAt0 m c (n - 1) (Nat.lt_of_le_of_lt (Nat.sub_le _ _) hn)).2.1 (outsAt0 m c (n - 1) (Nat.lt_of_le_of_lt (Nat.sub_le _ _) hn)).2.2.1
        (outsAt0 m c (n - 1) (Nat.lt_of_le_of_lt (Nat.sub_le _ _) hn)).2.2.2
        (∑ e ∈ Finset.range (n % 32 + 1), ∑ s, ((weight (wl m c (hd y1) (rowOf n y0) e s) : ℝ) : EReal))
        (fun D => ∑ e ∈ Finset.range (n % 32 + 1), ∑ s, ((weight (wl m c (hd y1) (rowOf n y0) e s) : ℝ) : EReal) * wv m c e s D) := by
      simp only [Finset.sum_range_succ, wl_later hs _ n _ _ h1, Cert.Softmax.weight_bot, EReal.coe_zero, zero_mul, Finset.sum_const_zero, add_zero]
      exact H
    simp only [h2] at H'
    exact quotient m c _ _ _ _ _ _ hs H'

/-- The result array after the run. -/
theorem final (hs : Seen (m ((c : Thread nD τ).loc main_arg0)) (m ((c : Thread nD τ).loc main_arg1)) (m ((c : Thread nD τ).loc main_arg3))) :
    (dats m 0 c).arrAt 4 cfg0.N = Cert.Reference6Ideal.Read.val_main_v30 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  rw [after0_4]
  refine (point m c t ((flush0_4 t).mp hf) y hs).trans ?_
  have hq : t.val / 32 % 64 = t.val / 32 := Nat.mod_eq_of_lt (by have := lt_N t; omega)
  generalize Cert.Reference6Ideal.Read.val_main_v30 (F := Ideal) (m ((c : Thread nD τ).loc main_arg0)) (m ((c : Thread nD τ).loc main_arg1))
      (m ((c : Thread nD τ).loc main_arg2)) (m ((c : Thread nD τ).loc main_arg3)) = G
  unfold rowOf
  blk_point [iblk, V, idx t]

theorem seen_of [Cert.Pre_rows_see_earlier_keys.Facts] (hpre : Cert.Pre_Kernel6Ideal_rows_see_earlier_keys m) (c : Dev nD) :
    Seen (m ((c : Thread nD τ).loc main_arg0)) (m ((c : Thread nD τ).loc main_arg1)) (m ((c : Thread nD τ).loc main_arg3)) :=
  seen _ _ _ _ (hpre c).1 (hpre c).2.1 (hpre c).2.2.1 (hpre c).2.2.2.1 (hpre c).2.2.2.2
end

set_option maxRecDepth 1000000 in
/-- The kernel's result and the reference's are the same array of the same arguments. -/
theorem algebraic [Cert.Pre_rows_see_earlier_keys.Facts] : Cert.algebraic_Kernel6Ideal_Reference6Ideal_pre_rows_see_earlier_keys := by
  pair_intro
  · run_from Cert.Kernel6Ideal.Gen.run_main m g
  · have hs := seen_of m hpre
    clear hpre
    refine Idealize.ShloMosaic.θ_run_mono (Cert.Reference6Ideal.Value.run m' g') ?_
    intro r hr
    intro c
    have hc := hr c
    clear hr
    refine ⟨hc.1.trans ?_, hc.2⟩
    clear hc r
    refine (Cert.Reference6Ideal.Read.val_main_v30_eq m' c).trans ?_
    rw [(hagree c).1, (hagree c).2.1, (hagree c).2.2.1, (hagree c).2.2.2]
    exact (final m c (hs c)).symm

end Cert.Attention

end
-- ==== Proof.lean ====
/-
  The claims of Defs.lean, assembled: the frames are the generated ones, the two readings of a kernel agree as they are the
  same program, and the values are proved in Gla.lean, Ffn.lean, Proj.lean, OutProj.lean, SampleProj.lean and
  Attention.lean.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Pre_rows_see_earlier_keys
public import proofs.«01_k».proof.Proof.Proj
public import proofs.«01_k».proof.Proof.SampleProj
public import proofs.«01_k».proof.Proof.Ffn
public import proofs.«01_k».proof.Proof.OutProj
public import proofs.«01_k».proof.Proof.Gla
public import proofs.«01_k».proof.Proof.Attention
public import Idealize.ShloMosaic.Lib.Claim
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_rows_see_earlier_keys.Gen.facts,
  fun m ρ _ => Cert.Kernel.Gen.frame m ρ,
  fun m ρ _ => Cert.KernelIdeal.Gen.frame m ρ,
  fun m ρ _ => (θ_run _ _ _).mono (fun r h => ⟨fun c => (h c).2.2, sem_eq_zero_of_no_sems (by decide) r.2⟩) (Cert.ReferenceIdeal.Value.run m ρ),
  fun m ρ _ => Cert.Kernel2.Gen.frame m ρ,
  fun m ρ _ => Cert.Kernel2Ideal.Gen.frame m ρ,
  fun m ρ _ => (θ_run _ _ _).mono (fun r h => ⟨fun c => (h c).2, sem_eq_zero_of_no_sems (by decide) r.2⟩) (Cert.Reference2Ideal.Value.run m ρ),
  fun m ρ _ => Cert.Kernel3.Gen.frame m ρ,
  fun m ρ _ => Cert.Kernel3Ideal.Gen.frame m ρ,
  fun m ρ _ => (θ_run _ _ _).mono (fun r h => ⟨fun c => (h c).2.2.2.2, sem_eq_zero_of_no_sems (by decide) r.2⟩) (Cert.Reference3Ideal.Value.run m ρ),
  fun m ρ _ => Cert.Kernel4.Gen.frame m ρ,
  fun m ρ _ => Cert.Kernel4Ideal.Gen.frame m ρ,
  fun m ρ _ => (θ_run _ _ _).mono (fun r h => ⟨fun c => (h c).2, sem_eq_zero_of_no_sems (by decide) r.2⟩) (Cert.Reference4Ideal.Value.run m ρ),
  fun m ρ _ => Cert.Kernel5.Gen.frame m ρ,
  fun m ρ _ => Cert.Kernel5Ideal.Gen.frame m ρ,
  fun m ρ _ => (θ_run _ _ _).mono (fun r h => ⟨fun c => (h c).2.2.2.2, sem_eq_zero_of_no_sems (by decide) r.2⟩) (Cert.Reference5Ideal.Value.run m ρ),
  fun m ρ _ => Cert.Kernel6.Gen.frame m ρ,
  fun m ρ _ => Cert.Kernel6Ideal.Gen.frame m ρ,
  fun m ρ _ => Cert.Kernel6Ideal.Gen.frame m ρ,
  fun m ρ _ => (θ_run _ _ _).mono (fun r h => ⟨fun c => (h c).2, sem_eq_zero_of_no_sems (by decide) r.2⟩) (Cert.Reference6Ideal.Value.run m ρ),
  fun m ρ _ => (θ_run _ _ _).mono (fun r h => ⟨fun c => (h c).2, sem_eq_zero_of_no_sems (by decide) r.2⟩) (Cert.Reference6Ideal.Value.run m ρ),
  trivial,
  Cert.Gla.algebraic,
  trivial,
  Cert.Ffn.algebraic,
  trivial,
  Cert.Proj.algebraic,
  trivial,
  Cert.OutProj.algebraic,
  trivial,
  Cert.SampleProj.algebraic,
  trivial,
  haveI := Cert.Pre_rows_see_earlier_keys.Gen.facts
  Cert.Attention.algebraic⟩

end Cert.Proof

end
